-- ==== Defs.lean ====
def Pre_Kernel [hPre_kept_start_in_grid : Cert.Pre_kept_start_in_grid.Facts] (m : (ℓ : Loc Cert.Kernel.nD Cert.Kernel.τ Cert.Kernel.sig) → Buf (Elt Bits) ℓ) : Prop :=
  ∀ c : Dev Cert.Kernel.nD,
    (Cert.Pre_kept_start_in_grid.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal (m : (ℓ : Loc Cert.KernelIdeal.nD Cert.KernelIdeal.τ Cert.KernelIdeal.sig) → Buf (Elt Ideal) ℓ) : Prop :=
  True

def Pre_KernelIdeal_kept_start_in_grid [hPre_kept_start_in_grid : Cert.Pre_kept_start_in_grid.Facts] (m : (ℓ : Loc Cert.KernelIdeal.nD Cert.KernelIdeal.τ Cert.KernelIdeal.sig) → Buf (Elt Ideal) ℓ) : Prop :=
  ∀ c : Dev Cert.KernelIdeal.nD,
    (Cert.Pre_kept_start_in_grid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_small_covariances [hPre_small_covariances : Cert.Pre_small_covariances.Facts] (m : (ℓ : Loc Cert.KernelIdeal.nD Cert.KernelIdeal.τ Cert.KernelIdeal.sig) → Buf (Elt Ideal) ℓ) : Prop :=
  ∀ c : Dev Cert.KernelIdeal.nD,
    (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.1 = (fun _ => 1#1)
    ∧ (Cert.Pre_small_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_covariances [hPre_small_covariances : Cert.Pre_small_covariances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.1 = (fun _ => 1#1)
    ∧ (Cert.Pre_small_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2.2.2.2 = (fun _ => 1#1)

def quiescent_Kernel [hKernel : Cert.Kernel.Facts] [hPre_kept_start_in_grid : Cert.Pre_kept_start_in_grid.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_kept_start_in_grid [hKernelIdeal : Cert.KernelIdeal.Facts] [hPre_kept_start_in_grid : Cert.Pre_kept_start_in_grid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_kept_start_in_grid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_small_covariances [hKernelIdeal : Cert.KernelIdeal.Facts] [hPre_small_covariances : Cert.Pre_small_covariances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_covariances m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_small_covariances [hReferenceIdeal : Cert.ReferenceIdeal.Facts] [hPre_small_covariances : Cert.Pre_small_covariances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_covariances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_small_covariances [hKernelIdeal : Cert.KernelIdeal.Facts] [hReferenceIdeal : Cert.ReferenceIdeal.Facts] [hPre_small_covariances : Cert.Pre_small_covariances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_covariances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v96)) (v1 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_v102) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v288) = v0 c
          ∧ r.2.mem ((c.tc : Thread Cert.ReferenceIdeal.nD Cert.ReferenceIdeal.τ).loc Cert.ReferenceIdeal.main_v293) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_kept_start_in_grid : Cert.Pre_kept_start_in_grid.Facts) (hPre_small_covariances : Cert.Pre_small_covariances.Facts),
    quiescent_Kernel (hKernel := hKernel) (hPre_kept_start_in_grid := hPre_kept_start_in_grid)
    ∧ quiescent_KernelIdeal (hKernelIdeal := hKernelIdeal)
    ∧ quiescent_KernelIdeal_pre_kept_start_in_grid (hKernelIdeal := hKernelIdeal) (hPre_kept_start_in_grid := hPre_kept_start_in_grid)
    ∧ quiescent_KernelIdeal_pre_small_covariances (hKernelIdeal := hKernelIdeal) (hPre_small_covariances := hPre_small_covariances)
    ∧ quiescent_ReferenceIdeal (hReferenceIdeal := hReferenceIdeal)
    ∧ quiescent_ReferenceIdeal_pre_small_covariances (hReferenceIdeal := hReferenceIdeal) (hPre_small_covariances := hPre_small_covariances)
    ∧ preserves_Kernel_KernelIdeal
    ∧ algebraic_KernelIdeal_ReferenceIdeal_pre_small_covariances (hKernelIdeal := hKernelIdeal) (hReferenceIdeal := hReferenceIdeal) (hPre_small_covariances := hPre_small_covariances)
-- ==== Pre_kept_start_in_grid.lean ====
abbrev S16384x3 : Shape := ⟨2, ![16384, 3]⟩
abbrev S16384x1 : Shape := ⟨2, ![16384, 1]⟩
abbrev S16384x3x3 : Shape := ⟨3, ![16384, 3, 3]⟩
abbrev S16384x16 : Shape := ⟨2, ![16384, 16]⟩
abbrev S3 : Shape := ⟨1, ![3]⟩
abbrev S16384x1x1 : Shape := ⟨3, ![16384, 1, 1]⟩
abbrev S16384 : Shape := ⟨1, ![16384]⟩
abbrev S_ : Shape := ⟨0, ![]⟩
abbrev S1x3 : Shape := ⟨2, ![1, 3]⟩

class Facts : Prop where
  slices_S16384x3x3_S16384x1x1_0_0_0 : S16384x3x3.Slices ![0, 0, 0] S16384x1x1
  shapeCasts_S16384x1x1_S16384 : S16384x1x1.ShapeCasts S16384
  slices_S16384x3x3_S16384x1x1_0_1_1 : S16384x3x3.Slices ![0, 1, 1] S16384x1x1
  slices_S16384x3x3_S16384x1x1_0_2_2 : S16384x3x3.Slices ![0, 2, 2] S16384x1x1
  bcast_S16384_S16384x1_0 : S16384.BroadcastsInDim S16384x1 (![0] : Fin 1 → Fin S16384x1.rank)
  concatenates_S16384x1_S16384x1_S16384x1_S16384x3_d1 : Shape.Concatenates [S16384x1, S16384x1, S16384x1] S16384x3 1
  bcast_S_S16384x3 : S_.BroadcastsInDim S16384x3 (![] : Fin 0 → Fin S16384x3.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  reducesTo_S16384x3_S16384_d1 : S16384x3.ReducesTo [1] S16384
  h_S_ : 0 < S_.numel
  shapeCasts_S16384x1_S16384 : S16384x1.ShapeCasts S16384
  bcast_S_S16384 : S_.BroadcastsInDim S16384 (![] : Fin 0 → Fin S16384.rank)
  slices_S16384x3_S16384x1_0_0 : S16384x3.Slices ![0, 0] S16384x1
  slices_S16384x3_S16384x1_0_1 : S16384x3.Slices ![0, 1] S16384x1

variable [Facts]

noncomputable abbrev lit0 : Fin 3 → BitVec 32 := fun
  | 0 => 0xC2480000#32 | 1 => 0xC2480000#32 | 2 => 0xC0A00000#32
  | _ => 0#32

noncomputable abbrev lit1 : Fin 3 → BitVec 32 := fun
  | 0 => 0x42480000#32 | 1 => 0x42480000#32 | 2 => 0x40400000#32
  | _ => 0#32

def fn_clip {F : FTy → Type} [FloatOps F] (arg0 : FVec F S16384x3 .f32) (arg1 : FVec F S3 .f32) (arg2 : FVec F S3 .f32) : FVec F S16384x3 .f32 :=
  let v0 : FVec F S1x3 .f32 := broadcastInDim S1x3 ![1] bcast_S3_S1x3_1 arg1
  let v1 : FVec F S16384x3 .f32 := broadcastInDim S16384x3 ![0, 1] bcast_S1x3_S16384x3_0_1 v0
  let v2 : FVec F S16384x3 .f32 := maximumf v1 arg0
  let v3 : FVec F S1x3 .f32 := broadcastInDim S1x3 ![1] bcast_S3_S1x3_1 arg2
  let v4 : FVec F S16384x3 .f32 := broadcastInDim S16384x3 ![0, 1] bcast_S1x3_S16384x3_0_1 v3
  let v5 : FVec F S16384x3 .f32 := minimumf v4 v2
  v5

def fn_part2 {F : FTy → Type} [FloatOps F] (main_v29 : IVec S16384 1) (main_v38 : IVec S16384x3 32) : IVec S16384 1 :=
  let main_v39 : IVec S16384 1 := noti main_v29
  let main_v40 : IVec S16384x1 32 := (extractStridedSlice S16384x1 ![0, 0] · slices_S16384x3_S16384x1_0_0) main_v38
  let main_v41 : IVec S16384 32 := shapeCast S16384 main_v40 shapeCasts_S16384x1_S16384
  let main_c_7 : IVec S_ 32 := constantI S_ 32 200#32
  let main_v42 : IVec S16384 32 := broadcastInDim S16384 ![] bcast_S_S16384 main_c_7
  let main_v43 : IVec S16384 1 := cmpi .slt main_v41 main_v42
  let main_v44 : IVec S16384x1 32 := (extractStridedSlice S16384x1 ![0, 1] · slices_S16384x3_S16384x1_0_1) main_v38
  let main_v45 : IVec S16384 32 := shapeCast S16384 main_v44 shapeCasts_S16384x1_S16384
  let main_c_8 : IVec S_ 32 := constantI S_ 32 200#32
  let main_v46 : IVec S16384 32 := broadcastInDim S16384 ![] bcast_S_S16384 main_c_8
  let main_v47 : IVec S16384 1 := cmpi .slt main_v45 main_v46
  let main_v48 : IVec S16384 1 := andi main_v43 main_v47
  let main_v49 : IVec S16384 1 := ori main_v39 main_v48
  main_v49

def fn_part1 {F : FTy → Type} [FloatOps F] (main_arg1 : FVec F S16384x1 .f32) (main_cst : FVec F S3 .f32) (main_cst_0 : FVec F S3 .f32) (main_v13 : FVec F S16384x3 .f32) (main_v19 : IVec S16384x3 1) : IVec S16384 1 :=
  let main_c : IVec S_ 1 := constantI S_ 1 1#1
  let main_v20 : IVec S16384 1 := (fun x v => Host.reduce IntOp.andi x v reducesTo_S16384x3_S16384_d1 h_S_) main_v19 main_c
  let main_v21 : FVec F S1x3 .f32 := broadcastInDim S1x3 ![1] bcast_S3_S1x3_1 main_cst_0
  let main_v22 : FVec F S16384x3 .f32 := broadcastInDim S16384x3 ![0, 1] bcast_S1x3_S16384x3_0_1 main_v21
  let main_v23 : IVec S16384x3 1 := cmpf .olt main_v13 main_v22
  let main_c_3 : IVec S_ 1 := constantI S_ 1 1#1
  let main_v24 : IVec S16384 1 := (fun x v => Host.reduce IntOp.andi x v reducesTo_S16384x3_S16384_d1 h_S_) main_v23 main_c_3
  let main_v25 : IVec S16384 1 := andi main_v20 main_v24
  let main_v26 : FVec F S16384 .f32 := shapeCast S16384 main_arg1 shapeCasts_S16384x1_S16384
  let main_cst_4 : FVec F S_ .f32 := constant S_ .f32 0x38D1B717#32
  let main_v27 : FVec F S16384 .f32 := broadcastInDim S16384 ![] bcast_S_S16384 main_cst_4
  let main_v28 : IVec S16384 1 := cmpf .ogt main_v26 main_v27
  let main_v29 : IVec S16384 1 := andi main_v25 main_v28
  let main_v30 : FVec F S16384x3 .f32 := fn_clip (F := F) main_v13 main_cst main_cst_0
  let main_v31 : FVec F S1x3 .f32 := broadcastInDim S1x3 ![1] bcast_S3_S1x3_1 main_cst
  let main_v32 : FVec F S16384x3 .f32 := broadcastInDim S16384x3 ![0, 1] bcast_S1x3_S16384x3_0_1 main_v31
  let main_v33 : FVec F S16384x3 .f32 := subf main_v30 main_v32
  let main_cst_5 : FVec F S_ .f32 := constant S_ .f32 0x3F000000#32
  let main_v34 : FVec F S16384x3 .f32 := broadcastInDim S16384x3 ![] bcast_S_S16384x3 main_cst_5
  let main_v35 : FVec F S16384x3 .f32 := Host.divf main_v33 main_v34
  let main_v36 : IVec S16384x3 32 := fptosi 32 main_v35
  let main_c_6 : IVec S_ 32 := constantI S_ 32 0#32
  let main_v37 : IVec S16384x3 32 := broadcastInDim S16384x3 ![] bcast_S_S16384x3 main_c_6
  let main_v38 : IVec S16384x3 32 := maxsi main_v36 main_v37
  fn_part2 (F := F) main_v29 main_v38

def fn {F : FTy → Type} [FloatOps F] (main_arg0 : FVec F S16384x3 .f32) (main_arg1 : FVec F S16384x1 .f32) (main_arg2 : FVec F S16384x3x3 .f32) (main_arg3 : FVec F S16384x16 .f32) : IVec S16384 1 :=
  let main_cst : FVec F S3 .f32 := fun i => FloatOps.ofBits .f32 (lit0 (S3.rowMajor i))
  let main_cst_0 : FVec F S3 .f32 := fun i => FloatOps.ofBits .f32 (lit1 (S3.rowMajor i))
  let main_v0 : FVec F S16384x1x1 .f32 := (extractStridedSlice S16384x1x1 ![0, 0, 0] · slices_S16384x3x3_S16384x1x1_0_0_0) main_arg2
  let main_v1 : FVec F S16384 .f32 := shapeCast S16384 main_v0 shapeCasts_S16384x1x1_S16384
  let main_v2 : FVec F S16384x1x1 .f32 := (extractStridedSlice S16384x1x1 ![0, 1, 1] · slices_S16384x3x3_S16384x1x1_0_1_1) main_arg2
  let main_v3 : FVec F S16384 .f32 := shapeCast S16384 main_v2 shapeCasts_S16384x1x1_S16384
  let main_v4 : FVec F S16384x1x1 .f32 := (extractStridedSlice S16384x1x1 ![0, 2, 2] · slices_S16384x3x3_S16384x1x1_0_2_2) main_arg2
  let main_v5 : FVec F S16384 .f32 := shapeCast S16384 main_v4 shapeCasts_S16384x1x1_S16384
  let main_v6 : FVec F S16384x1 .f32 := broadcastInDim S16384x1 ![0] bcast_S16384_S16384x1_0 main_v1
  let main_v7 : FVec F S16384x1 .f32 := broadcastInDim S16384x1 ![0] bcast_S16384_S16384x1_0 main_v3
  let main_v8 : FVec F S16384x1 .f32 := broadcastInDim S16384x1 ![0] bcast_S16384_S16384x1_0 main_v5
  let main_v9 : FVec F S16384x3 .f32 := concatenate S16384x3 1 [⟨S16384x1, main_v6⟩, ⟨S16384x1, main_v7⟩, ⟨S16384x1, main_v8⟩] concatenates_S16384x1_S16384x1_S16384x1_S16384x3_d1
  let main_v10 : FVec F S16384x3 .f32 := Host.sqrt main_v9
  let main_cst_1 : FVec F S_ .f32 := constant S_ .f32 0x40400000#32
  let main_v11 : FVec F S16384x3 .f32 := broadcastInDim S16384x3 ![] bcast_S_S16384x3 main_cst_1
  let main_v12 : FVec F S16384x3 .f32 := mulf main_v11 main_v10
  let main_v13 : FVec F S16384x3 .f32 := subf main_arg0 main_v12
  let main_cst_2 : FVec F S_ .f32 := constant S_ .f32 0x40400000#32
  let main_v14 : FVec F S16384x3 .f32 := broadcastInDim S16384x3 ![] bcast_S_S16384x3 main_cst_2
  let main_v15 : FVec F S16384x3 .f32 := mulf main_v14 main_v10
  let main_v16 : FVec F S16384x3 .f32 := addf main_arg0 main_v15
  let main_v17 : FVec F S1x3 .f32 := broadcastInDim S1x3 ![1] bcast_S3_S1x3_1 main_cst
  let main_v18 : FVec F S16384x3 .f32 := broadcastInDim S16384x3 ![0, 1] bcast_S1x3_S16384x3_0_1 main_v17
  let main_v19 : IVec S16384x3 1 := cmpf .ogt main_v16 main_v18
  fn_part1 (F := F) main_arg1 main_cst main_cst_0 main_v13 main_v19
-- ==== Pre_small_covariances.lean ====
abbrev S16384x3 : Shape := ⟨2, ![16384, 3]⟩
abbrev S16384x1 : Shape := ⟨2, ![16384, 1]⟩
abbrev S16384x3x3 : Shape := ⟨3, ![16384, 3, 3]⟩
abbrev S16384x16 : Shape := ⟨2, ![16384, 16]⟩
abbrev S16384x1x1 : Shape := ⟨3, ![16384, 1, 1]⟩
abbrev S16384 : Shape := ⟨1, ![16384]⟩
abbrev S_ : Shape := ⟨0, ![]⟩

class Facts : Prop where
  slices_S16384x3x3_S16384x1x1_0_0_0 : S16384x3x3.Slices ![0, 0, 0] S16384x1x1
  shapeCasts_S16384x1x1_S16384 : S16384x1x1.ShapeCasts S16384
  slices_S16384x3x3_S16384x1x1_0_1_1 : S16384x3x3.Slices ![0, 1, 1] S16384x1x1
  slices_S16384x3x3_S16384x1x1_0_2_2 : S16384x3x3.Slices ![0, 2, 2] S16384x1x1
  slices_S16384x3x3_S16384x1x1_0_1_2 : S16384x3x3.Slices ![0, 1, 2] S16384x1x1
  slices_S16384x3x3_S16384x1x1_0_0_1 : S16384x3x3.Slices ![0, 0, 1] S16384x1x1
  slices_S16384x3x3_S16384x1x1_0_0_2 : S16384x3x3.Slices ![0, 0, 2] S16384x1x1
  bcast_S_S16384x3x3 : S_.BroadcastsInDim S16384x3x3 (![] : Fin 0 → Fin S16384x3x3.rank)
  slices_S16384x3x3_S16384x1x1_0_1_0 : S16384x3x3.Slices ![0, 1, 0] S16384x1x1
  slices_S16384x3x3_S16384x1x1_0_2_0 : S16384x3x3.Slices ![0, 2, 0] S16384x1x1
  slices_S16384x3x3_S16384x1x1_0_2_1 : S16384x3x3.Slices ![0, 2, 1] S16384x1x1
  bcast_S_S16384 : S_.BroadcastsInDim S16384 (![] : Fin 0 → Fin S16384.rank)

variable [Facts]

def fn_part3 {F : FTy → Type} [FloatOps F] (main_arg2 : FVec F S16384x3x3 .f32) (main_v43 : FVec F S16384 .f32) (main_v45 : IVec S16384x3x3 1) (main_v47 : IVec S16384x3x3 1) (main_v52 : IVec S16384 1) (main_v57 : IVec S16384 1) (main_v62 : IVec S16384 1) (main_v66 : IVec S16384 1) (main_v68 : FVec F S16384 .f32) : IVec S16384x3x3 1 × IVec S16384x3x3 1 × IVec S16384 1 × IVec S16384 1 × IVec S16384 1 × IVec S16384 1 × IVec S16384 1 × IVec S16384 1 × IVec S16384 1 :=
  let main_cst_2 : FVec F S_ .f32 := constant S_ .f32 0x3EAE147B#32
  let main_v69 : FVec F S16384 .f32 := broadcastInDim S16384 ![] bcast_S_S16384 main_cst_2
  let main_v70 : IVec S16384 1 := cmpf .ole main_v68 main_v69
  let main_v71 : FVec F S16384x1x1 .f32 := (extractStridedSlice S16384x1x1 ![0, 2, 2] · slices_S16384x3x3_S16384x1x1_0_2_2) main_arg2
  let main_v72 : FVec F S16384 .f32 := shapeCast S16384 main_v71 shapeCasts_S16384x1x1_S16384
  let main_cst_3 : FVec F S_ .f32 := constant S_ .f32 0x3EAE147B#32
  let main_v73 : FVec F S16384 .f32 := broadcastInDim S16384 ![] bcast_S_S16384 main_cst_3
  let main_v74 : IVec S16384 1 := cmpf .ole main_v72 main_v73
  let main_cst_4 : FVec F S_ .f32 := constant S_ .f32 0x00000000#32
  let main_v75 : FVec F S16384 .f32 := broadcastInDim S16384 ![] bcast_S_S16384 main_cst_4
  let main_v76 : IVec S16384 1 := cmpf .une main_v43 main_v75
  (main_v45, main_v47, main_v52, main_v57, main_v62, main_v66, main_v70, main_v74, main_v76)

def fn_part2 {F : FTy → Type} [FloatOps F] (main_arg2 : FVec F S16384x3x3 .f32) (main_v43 : FVec F S16384 .f32) (main_v45 : IVec S16384x3x3 1) (main_cst_0 : FVec F S_ .f32) : IVec S16384x3x3 1 × IVec S16384x3x3 1 × IVec S16384 1 × IVec S16384 1 × IVec S16384 1 × IVec S16384 1 × IVec S16384 1 × IVec S16384 1 × IVec S16384 1 :=
  let main_v46 : FVec F S16384x3x3 .f32 := broadcastInDim S16384x3x3 ![] bcast_S_S16384x3x3 main_cst_0
  let main_v47 : IVec S16384x3x3 1 := cmpf .ogt main_arg2 main_v46
  let main_v48 : FVec F S16384x1x1 .f32 := (extractStridedSlice S16384x1x1 ![0, 0, 1] · slices_S16384x3x3_S16384x1x1_0_0_1) main_arg2
  let main_v49 : FVec F S16384 .f32 := shapeCast S16384 main_v48 shapeCasts_S16384x1x1_S16384
  let main_v50 : FVec F S16384x1x1 .f32 := (extractStridedSlice S16384x1x1 ![0, 1, 0] · slices_S16384x3x3_S16384x1x1_0_1_0) main_arg2
  let main_v51 : FVec F S16384 .f32 := shapeCast S16384 main_v50 shapeCasts_S16384x1x1_S16384
  let main_v52 : IVec S16384 1 := cmpf .oeq main_v49 main_v51
  let main_v53 : FVec F S16384x1x1 .f32 := (extractStridedSlice S16384x1x1 ![0, 0, 2] · slices_S16384x3x3_S16384x1x1_0_0_2) main_arg2
  let main_v54 : FVec F S16384 .f32 := shapeCast S16384 main_v53 shapeCasts_S16384x1x1_S16384
  let main_v55 : FVec F S16384x1x1 .f32 := (extractStridedSlice S16384x1x1 ![0, 2, 0] · slices_S16384x3x3_S16384x1x1_0_2_0) main_arg2
  let main_v56 : FVec F S16384 .f32 := shapeCast S16384 main_v55 shapeCasts_S16384x1x1_S16384
  let main_v57 : IVec S16384 1 := cmpf .oeq main_v54 main_v56
  let main_v58 : FVec F S16384x1x1 .f32 := (extractStridedSlice S16384x1x1 ![0, 1, 2] · slices_S16384x3x3_S16384x1x1_0_1_2) main_arg2
  let main_v59 : FVec F S16384 .f32 := shapeCast S16384 main_v58 shapeCasts_S16384x1x1_S16384
  let main_v60 : FVec F S16384x1x1 .f32 := (extractStridedSlice S16384x1x1 ![0, 2, 1] · slices_S16384x3x3_S16384x1x1_0_2_1) main_arg2
  let main_v61 : FVec F S16384 .f32 := shapeCast S16384 main_v60 shapeCasts_S16384x1x1_S16384
  let main_v62 : IVec S16384 1 := cmpf .oeq main_v59 main_v61
  let main_v63 : FVec F S16384x1x1 .f32 := (extractStridedSlice S16384x1x1 ![0, 0, 0] · slices_S16384x3x3_S16384x1x1_0_0_0) main_arg2
  let main_v64 : FVec F S16384 .f32 := shapeCast S16384 main_v63 shapeCasts_S16384x1x1_S16384
  let main_cst_1 : FVec F S_ .f32 := constant S_ .f32 0x3EAE147B#32
  let main_v65 : FVec F S16384 .f32 := broadcastInDim S16384 ![] bcast_S_S16384 main_cst_1
  let main_v66 : IVec S16384 1 := cmpf .ole main_v64 main_v65
  let main_v67 : FVec F S16384x1x1 .f32 := (extractStridedSlice S16384x1x1 ![0, 1, 1] · slices_S16384x3x3_S16384x1x1_0_1_1) main_arg2
  let main_v68 : FVec F S16384 .f32 := shapeCast S16384 main_v67 shapeCasts_S16384x1x1_S16384
  fn_part3 (F := F) main_arg2 main_v43 main_v45 main_v47 main_v52 main_v57 main_v62 main_v66 main_v68

def fn_part1 {F : FTy → Type} [FloatOps F] (main_arg2 : FVec F S16384x3x3 .f32) (main_v13 : FVec F S16384 .f32) (main_v15 : FVec F S16384 .f32) (main_v20 : FVec F S16384 .f32) (main_v22 : FVec F S16384 .f32) (main_v23 : FVec F S16384x1x1 .f32) : IVec S16384x3x3 1 × IVec S16384x3x3 1 × IVec S16384 1 × IVec S16384 1 × IVec S16384 1 × IVec S16384 1 × IVec S16384 1 × IVec S16384 1 × IVec S16384 1 :=
  let main_v24 : FVec F S16384 .f32 := shapeCast S16384 main_v23 shapeCasts_S16384x1x1_S16384
  let main_v25 : FVec F S16384 .f32 := mulf main_v22 main_v24
  let main_v26 : FVec F S16384 .f32 := subf main_v20 main_v25
  let main_v27 : FVec F S16384 .f32 := mulf main_v15 main_v26
  let main_v28 : FVec F S16384 .f32 := subf main_v13 main_v27
  let main_v29 : FVec F S16384x1x1 .f32 := (extractStridedSlice S16384x1x1 ![0, 0, 2] · slices_S16384x3x3_S16384x1x1_0_0_2) main_arg2
  let main_v30 : FVec F S16384 .f32 := shapeCast S16384 main_v29 shapeCasts_S16384x1x1_S16384
  let main_v31 : FVec F S16384x1x1 .f32 := (extractStridedSlice S16384x1x1 ![0, 0, 1] · slices_S16384x3x3_S16384x1x1_0_0_1) main_arg2
  let main_v32 : FVec F S16384 .f32 := shapeCast S16384 main_v31 shapeCasts_S16384x1x1_S16384
  let main_v33 : FVec F S16384x1x1 .f32 := (extractStridedSlice S16384x1x1 ![0, 1, 2] · slices_S16384x3x3_S16384x1x1_0_1_2) main_arg2
  let main_v34 : FVec F S16384 .f32 := shapeCast S16384 main_v33 shapeCasts_S16384x1x1_S16384
  let main_v35 : FVec F S16384 .f32 := mulf main_v32 main_v34
  let main_v36 : FVec F S16384x1x1 .f32 := (extractStridedSlice S16384x1x1 ![0, 0, 2] · slices_S16384x3x3_S16384x1x1_0_0_2) main_arg2
  let main_v37 : FVec F S16384 .f32 := shapeCast S16384 main_v36 shapeCasts_S16384x1x1_S16384
  let main_v38 : FVec F S16384x1x1 .f32 := (extractStridedSlice S16384x1x1 ![0, 1, 1] · slices_S16384x3x3_S16384x1x1_0_1_1) main_arg2
  let main_v39 : FVec F S16384 .f32 := shapeCast S16384 main_v38 shapeCasts_S16384x1x1_S16384
  let main_v40 : FVec F S16384 .f32 := mulf main_v37 main_v39
  let main_v41 : FVec F S16384 .f32 := subf main_v35 main_v40
  let main_v42 : FVec F S16384 .f32 := mulf main_v30 main_v41
  let main_v43 : FVec F S16384 .f32 := addf main_v28 main_v42
  let main_cst : FVec F S_ .f32 := constant S_ .f32 0x7F800000#32
  let main_v44 : FVec F S16384x3x3 .f32 := broadcastInDim S16384x3x3 ![] bcast_S_S16384x3x3 main_cst
  let main_v45 : IVec S16384x3x3 1 := cmpf .olt main_arg2 main_v44
  let main_cst_0 : FVec F S_ .f32 := constant S_ .f32 0xFF800000#32
  fn_part2 (F := F) main_arg2 main_v43 main_v45 main_cst_0

def fn {F : FTy → Type} [FloatOps F] (main_arg0 : FVec F S16384x3 .f32) (main_arg1 : FVec F S16384x1 .f32) (main_arg2 : FVec F S16384x3x3 .f32) (main_arg3 : FVec F S16384x16 .f32) : IVec S16384x3x3 1 × IVec S16384x3x3 1 × IVec S16384 1 × IVec S16384 1 × IVec S16384 1 × IVec S16384 1 × IVec S16384 1 × IVec S16384 1 × IVec S16384 1 :=
  let main_v0 : FVec F S16384x1x1 .f32 := (extractStridedSlice S16384x1x1 ![0, 0, 0] · slices_S16384x3x3_S16384x1x1_0_0_0) main_arg2
  let main_v1 : FVec F S16384 .f32 := shapeCast S16384 main_v0 shapeCasts_S16384x1x1_S16384
  let main_v2 : FVec F S16384x1x1 .f32 := (extractStridedSlice S16384x1x1 ![0, 1, 1] · slices_S16384x3x3_S16384x1x1_0_1_1) main_arg2
  let main_v3 : FVec F S16384 .f32 := shapeCast S16384 main_v2 shapeCasts_S16384x1x1_S16384
  let main_v4 : FVec F S16384x1x1 .f32 := (extractStridedSlice S16384x1x1 ![0, 2, 2] · slices_S16384x3x3_S16384x1x1_0_2_2) main_arg2
  let main_v5 : FVec F S16384 .f32 := shapeCast S16384 main_v4 shapeCasts_S16384x1x1_S16384
  let main_v6 : FVec F S16384 .f32 := mulf main_v3 main_v5
  let main_v7 : FVec F S16384x1x1 .f32 := (extractStridedSlice S16384x1x1 ![0, 1, 2] · slices_S16384x3x3_S16384x1x1_0_1_2) main_arg2
  let main_v8 : FVec F S16384 .f32 := shapeCast S16384 main_v7 shapeCasts_S16384x1x1_S16384
  let main_v9 : FVec F S16384x1x1 .f32 := (extractStridedSlice S16384x1x1 ![0, 1, 2] · slices_S16384x3x3_S16384x1x1_0_1_2) main_arg2
  let main_v10 : FVec F S16384 .f32 := shapeCast S16384 main_v9 shapeCasts_S16384x1x1_S16384
  let main_v11 : FVec F S16384 .f32 := mulf main_v8 main_v10
  let main_v12 : FVec F S16384 .f32 := subf main_v6 main_v11
  let main_v13 : FVec F S16384 .f32 := mulf main_v1 main_v12
  let main_v14 : FVec F S16384x1x1 .f32 := (extractStridedSlice S16384x1x1 ![0, 0, 1] · slices_S16384x3x3_S16384x1x1_0_0_1) main_arg2
  let main_v15 : FVec F S16384 .f32 := shapeCast S16384 main_v14 shapeCasts_S16384x1x1_S16384
  let main_v16 : FVec F S16384x1x1 .f32 := (extractStridedSlice S16384x1x1 ![0, 0, 1] · slices_S16384x3x3_S16384x1x1_0_0_1) main_arg2
  let main_v17 : FVec F S16384 .f32 := shapeCast S16384 main_v16 shapeCasts_S16384x1x1_S16384
  let main_v18 : FVec F S16384x1x1 .f32 := (extractStridedSlice S16384x1x1 ![0, 2, 2] · slices_S16384x3x3_S16384x1x1_0_2_2) main_arg2
  let main_v19 : FVec F S16384 .f32 := shapeCast S16384 main_v18 shapeCasts_S16384x1x1_S16384
  let main_v20 : FVec F S16384 .f32 := mulf main_v17 main_v19
  let main_v21 : FVec F S16384x1x1 .f32 := (extractStridedSlice S16384x1x1 ![0, 0, 2] · slices_S16384x3x3_S16384x1x1_0_0_2) main_arg2
  let main_v22 : FVec F S16384 .f32 := shapeCast S16384 main_v21 shapeCasts_S16384x1x1_S16384
  let main_v23 : FVec F S16384x1x1 .f32 := (extractStridedSlice S16384x1x1 ![0, 1, 2] · slices_S16384x3x3_S16384x1x1_0_1_2) main_arg2
  fn_part1 (F := F) main_arg2 main_v13 main_v15 main_v20 main_v22 main_v23
-- ==== Kernel.lean ====
abbrev S16384x3 : Shape := ⟨2, ![16384, 3]⟩
abbrev S16384x1 : Shape := ⟨2, ![16384, 1]⟩
abbrev S16384x3x3 : Shape := ⟨3, ![16384, 3, 3]⟩
abbrev S16384x16 : Shape := ⟨2, ![16384, 16]⟩
abbrev S3 : Shape := ⟨1, ![3]⟩
abbrev S16384x1x1 : Shape := ⟨3, ![16384, 1, 1]⟩
abbrev S16384 : Shape := ⟨1, ![16384]⟩
abbrev S_ : Shape := ⟨0, ![]⟩
abbrev S1x3 : Shape := ⟨2, ![1, 3]⟩
abbrev S16384x9 : Shape := ⟨2, ![16384, 9]⟩
abbrev S8x33x208x512 : Shape := ⟨4, ![8, 33, 208, 512]⟩
abbrev S16x3 : Shape := ⟨2, ![16, 3]⟩
abbrev S16x1 : Shape := ⟨2, ![16, 1]⟩
abbrev S16x9 : Shape := ⟨2, ![16, 9]⟩
abbrev S16x16 : Shape := ⟨2, ![16, 16]⟩
abbrev S1x33x208x512 : Shape := ⟨4, ![1, 33, 208, 512]⟩
abbrev S16x8x16x512 : Shape := ⟨4, ![16, 8, 16, 512]⟩
abbrev S16 : Shape := ⟨1, ![16]⟩
abbrev S16x1x1x1 : Shape := ⟨4, ![16, 1, 1, 1]⟩
abbrev S1x8x1x1 : Shape := ⟨4, ![1, 8, 1, 1]⟩
abbrev S1x1x16x1 : Shape := ⟨4, ![1, 1, 16, 1]⟩
abbrev S1x1x1x512 : Shape := ⟨4, ![1, 1, 1, 512]⟩
abbrev S16x8x1x1 : Shape := ⟨4, ![16, 8, 1, 1]⟩
abbrev S16x1x16x1 : Shape := ⟨4, ![16, 1, 16, 1]⟩
abbrev S16x1x1x512 : Shape := ⟨4, ![16, 1, 1, 512]⟩
abbrev S16x8x16x1 : Shape := ⟨4, ![16, 8, 16, 1]⟩
abbrev S16x8x1x512 : Shape := ⟨4, ![16, 8, 1, 512]⟩
abbrev S16x1x16x512 : Shape := ⟨4, ![16, 1, 16, 512]⟩
abbrev S16x384 : Shape := ⟨2, ![16, 384]⟩
abbrev S16x24 : Shape := ⟨2, ![16, 24]⟩
abbrev S16x104 : Shape := ⟨2, ![16, 104]⟩
abbrev S16x512 : Shape := ⟨2, ![16, 512]⟩
abbrev S1 : Shape := ⟨1, ![1]⟩
abbrev S1x8x16x512 : Shape := ⟨4, ![1, 8, 16, 512]⟩
abbrev S8x16x512 : Shape := ⟨3, ![8, 16, 512]⟩
abbrev S256x208x512 : Shape := ⟨3, ![256, 208, 512]⟩
abbrev S33x208x512 : Shape := ⟨3, ![33, 208, 512]⟩
abbrev S200x200x16 : Shape := ⟨3, ![200, 200, 16]⟩
abbrev S200x200x16x1 : Shape := ⟨4, ![200, 200, 16, 1]⟩
abbrev S200x200x256 : Shape := ⟨3, ![200, 200, 256]⟩
abbrev S200x200x16x16 : Shape := ⟨4, ![200, 200, 16, 16]⟩

abbrev nBuf : Space → Nat
  | .hbm => 153
  | .vmem => 15
  | .smem => 3
  | _ => 0

abbrev hbmTy0_0 (i : Nat) : BufTy := match i % 128 with
  | 0 => ⟨S16384x3, .f32⟩
  | 1 => ⟨S16384x1, .f32⟩
  | 2 => ⟨S16384x3x3, .f32⟩
  | 3 => ⟨S16384x16, .f32⟩
  | 4 => ⟨S3, .f32⟩
  | 5 => ⟨S3, .f32⟩
  | 6 => ⟨S3, .i32⟩
  | 7 => ⟨S16384x1x1, .f32⟩
  | 8 => ⟨S16384, .f32⟩
  | 9 => ⟨S16384x1x1, .f32⟩
  | 10 => ⟨S16384, .f32⟩
  | 11 => ⟨S16384x1x1, .f32⟩
  | 12 => ⟨S16384, .f32⟩
  | 13 => ⟨S16384x1, .f32⟩
  | 14 => ⟨S16384x1, .f32⟩
  | 15 => ⟨S16384x1, .f32⟩
  | 16 => ⟨S16384x3, .f32⟩
  | 17 => ⟨S16384x3, .f32⟩
  | 18 => ⟨S_, .f32⟩
  | 19 => ⟨S16384x3, .f32⟩
  | 20 => ⟨S16384x3, .f32⟩
  | 21 => ⟨S16384x3, .f32⟩
  | 22 => ⟨S_, .f32⟩
  | 23 => ⟨S16384x3, .f32⟩
  | 24 => ⟨S16384x3, .f32⟩
  | 25 => ⟨S16384x3, .f32⟩
  | 26 => ⟨S1x3, .f32⟩
  | 27 => ⟨S16384x3, .f32⟩
  | 28 => ⟨S16384x3, .i1⟩
  | 29 => ⟨S_, .i1⟩
  | 30 => ⟨S16384, .i1⟩
  | 31 => ⟨S1x3, .f32⟩
  | 32 => ⟨S16384x3, .f32⟩
  | 33 => ⟨S16384x3, .i1⟩
  | 34 => ⟨S_, .i1⟩
  | 35 => ⟨S16384, .i1⟩
  | 36 => ⟨S16384, .i1⟩
  | 37 => ⟨S16384, .f32⟩
  | 38 => ⟨S_, .f32⟩
  | 39 => ⟨S16384, .f32⟩
  | 40 => ⟨S16384, .i1⟩
  | 41 => ⟨S16384, .i1⟩
  | 42 => ⟨S1x3, .f32⟩
  | 43 => ⟨S16384x3, .f32⟩
  | 44 => ⟨S16384x3, .f32⟩
  | 45 => ⟨S1x3, .f32⟩
  | 46 => ⟨S16384x3, .f32⟩
  | 47 => ⟨S16384x3, .f32⟩
  | 48 => ⟨S1x3, .f32⟩
  | 49 => ⟨S16384x3, .f32⟩
  | 50 => ⟨S16384x3, .f32⟩
  | 51 => ⟨S1x3, .f32⟩
  | 52 => ⟨S16384x3, .f32⟩
  | 53 => ⟨S16384x3, .f32⟩
  | 54 => ⟨S1x3, .f32⟩
  | 55 => ⟨S16384x3, .f32⟩
  | 56 => ⟨S16384x3, .f32⟩
  | 57 => ⟨S_, .f32⟩
  | 58 => ⟨S16384x3, .f32⟩
  | 59 => ⟨S16384x3, .f32⟩
  | 60 => ⟨S16384x3, .i32⟩
  | 61 => ⟨S_, .i32⟩
  | 62 => ⟨S16384x3, .i32⟩
  | 63 => ⟨S16384x3, .i32⟩
  | 64 => ⟨S1x3, .f32⟩
  | 65 => ⟨S16384x3, .f32⟩
  | 66 => ⟨S16384x3, .f32⟩
  | 67 => ⟨S_, .f32⟩
  | 68 => ⟨S16384x3, .f32⟩
  | 69 => ⟨S16384x3, .f32⟩
  | 70 => ⟨S16384x3, .i32⟩
  | 71 => ⟨S_, .i32⟩
  | 72 => ⟨S3, .i32⟩
  | 73 => ⟨S3, .i32⟩
  | 74 => ⟨S1x3, .i32⟩
  | 75 => ⟨S16384x3, .i32⟩
  | 76 => ⟨S16384x3, .i32⟩
  | 77 => ⟨S16384x3, .i32⟩
  | 78 => ⟨S16384x3, .f32⟩
  | 79 => ⟨S16384x1, .i32⟩
  | 80 => ⟨S16384x1, .i32⟩
  | 81 => ⟨S16384, .i32⟩
  | 82 => ⟨S_, .i32⟩
  | 83 => ⟨S_, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i1⟩
  | 90 => ⟨S16384, .i32⟩
  | 91 => ⟨S16384, .i32⟩
  | 92 => ⟨S_, .i32⟩
  | 93 => ⟨S16384, .i32⟩
  | 94 => ⟨S16384, .i1⟩
  | 95 => ⟨S16384, .i1⟩
  | 96 => ⟨S_, .i32⟩
  | 97 => ⟨S16384, .i32⟩
  | 98 => ⟨S16384, .i32⟩
  | 99 => ⟨S16384x3, .f32⟩
  | 100 => ⟨S16384x9, .f32⟩
  | 101 => ⟨S8x33x208x512, .f32⟩
  | 102 => ⟨S_, .f32⟩
  | 103 => ⟨S256x208x512, .f32⟩
  | 104 => ⟨S1x33x208x512, .f32⟩
  | 105 => ⟨S33x208x512, .f32⟩
  | 106 => ⟨S_, .i32⟩
  | 107 => ⟨S1, .i32⟩
  | 108 => ⟨S256x208x512, .f32⟩
  | 109 => ⟨S1x33x208x512, .f32⟩
  | 110 => ⟨S33x208x512, .f32⟩
  | 111 => ⟨S_, .i32⟩
  | 112 => ⟨S1, .i32⟩
  | 113 => ⟨S256x208x512, .f32⟩
  | 114 => ⟨S1x33x208x512, .f32⟩
  | 115 => ⟨S33x208x512, .f32⟩
  | 116 => ⟨S_, .i32⟩
  | 117 => ⟨S1, .i32⟩
  | 118 => ⟨S256x208x512, .f32⟩
  | 119 => ⟨S1x33x208x512, .f32⟩
  | 120 => ⟨S33x208x512, .f32⟩
  | 121 => ⟨S_, .i32⟩
  | 122 => ⟨S1, .i32⟩
  | 123 => ⟨S256x208x512, .f32⟩
  | 124 => ⟨S1x33x208x512, .f32⟩
  | 125 => ⟨S33x208x512, .f32⟩
  | 126 => ⟨S_, .i32⟩
  | 127 => ⟨S1, .i32⟩
  | _ => ⟨S16384x3, .f32⟩

abbrev hbmTy0_1 (i : Nat) : BufTy := match i % 128 with
  | 0 => ⟨S256x208x512, .f32⟩
  | 1 => ⟨S1x33x208x512, .f32⟩
  | 2 => ⟨S33x208x512, .f32⟩
  | 3 => ⟨S_, .i32⟩
  | 4 => ⟨S1, .i32⟩
  | 5 => ⟨S256x208x512, .f32⟩
  | 6 => ⟨S1x33x208x512, .f32⟩
  | 7 => ⟨S33x208x512, .f32⟩
  | 8 => ⟨S_, .i32⟩
  | 9 => ⟨S1, .i32⟩
  | 10 => ⟨S256x208x512, .f32⟩
  | 11 => ⟨S1x33x208x512, .f32⟩
  | 12 => ⟨S33x208x512, .f32⟩
  | 13 => ⟨S_, .i32⟩
  | 14 => ⟨S1, .i32⟩
  | 15 => ⟨S256x208x512, .f32⟩
  | 16 => ⟨S200x200x16, .f32⟩
  | 17 => ⟨S200x200x16x1, .f32⟩
  | 18 => ⟨S200x200x256, .f32⟩
  | 19 => ⟨S200x200x16x16, .f32⟩
  | 20 => ⟨S_, .f32⟩
  | 21 => ⟨S200x200x16x1, .f32⟩
  | 22 => ⟨S200x200x16x1, .f32⟩
  | 23 => ⟨S200x200x16x16, .f32⟩
  | 24 => ⟨S200x200x16x16, .f32⟩
  | _ => ⟨S16384x3, .f32⟩

abbrev hbmTy (i : Nat) : BufTy := match i / 128 with
  | 0 => hbmTy0_0 i
  | 1 => hbmTy0_1 i
  | _ => ⟨S16384x3, .f32⟩

abbrev bufTy : (tb : Table) → Fin (tcTables nBuf tb) → BufTy
  | .hbm, ⟨i, _⟩ => hbmTy i
  | .local _ .vmem, ⟨0, _⟩ => ⟨S16x3, .f32⟩
  | .local _ .vmem, ⟨1, _⟩ => ⟨S16x3, .f32⟩
  | .local _ .vmem, ⟨2, _⟩ => ⟨S16x1, .f32⟩
  | .local _ .vmem, ⟨3, _⟩ => ⟨S16x1, .f32⟩
  | .local _ .vmem, ⟨4, _⟩ => ⟨S16x9, .f32⟩
  | .local _ .vmem, ⟨5, _⟩ => ⟨S16x9, .f32⟩
  | .local _ .vmem, ⟨6, _⟩ => ⟨S16x16, .f32⟩
  | .local _ .vmem, ⟨7, _⟩ => ⟨S16x16, .f32⟩
  | .local _ .vmem, ⟨8, _⟩ => ⟨S16x3, .f32⟩
  | .local _ .vmem, ⟨9, _⟩ => ⟨S16x3, .f32⟩
  | .local _ .vmem, ⟨10, _⟩ => ⟨S16x3, .f32⟩
  | .local _ .vmem, ⟨11, _⟩ => ⟨S16x3, .f32⟩
  | .local _ .vmem, ⟨12, _⟩ => ⟨S1x33x208x512, .f32⟩
  | .local _ .vmem, ⟨13, _⟩ => ⟨S1x33x208x512, .f32⟩
  | .local _ .vmem, ⟨14, _⟩ => ⟨S16x8x16x512, .f32⟩
  | .local _ .smem, ⟨0, _⟩ => ⟨S16384, .i32⟩
  | .local _ .smem, ⟨1, _⟩ => ⟨S16384, .i32⟩
  | .local _ .smem, ⟨2, _⟩ => ⟨S16384, .i32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_c : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_0 : Ref sig .tc := ⟨.hbm, 96, rfl⟩
abbrev main_call2_v12 : Ref sig .tc := ⟨.hbm, 97, rfl⟩
abbrev main_call2_v13 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_11 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_c_12 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_c_13 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_c_14 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_c_15 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_c_16 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_17 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_c_18 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_c_19 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_20 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v54 : Ref sig .tc := ⟨.smem, 0, rfl⟩
abbrev main_v57 : Ref sig .tc := ⟨.smem, 1, rfl⟩
abbrev main_v58 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 1024], ![false, false]⟩

abbrev pre0 : Pipeline.Prefetch sig := ⟨3, ![main_v54.idx, main_v57.idx, main_v58.idx], fun | 0 => main_v54.names | 1 => main_v57.names | 2 => main_v58.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

@[reducible] def k0_t1_loop : Scf.Loop 32 :=
  let c0_i32_54 : BitVec 32 := 0#32
  let c16_i32_55 : BitVec 32 := 16#32
  let v246 : BitVec 32 := Scalar.addi c0_i32_54 c16_i32_55
  let c1_i32_56 : BitVec 32 := 1#32
  ⟨c0_i32_54, v246, c1_i32_56⟩
def k0_off1 (i : grid0.Coords) (k0_t1 : Fin k0_t1_loop.trips) : Fin 1 → Nat :=
  let arg1 : BitVec 32 := BitVec.ofNat 32 (i 1).val
  let c16_i32_58 : BitVec 32 := 16#32
  let v247 : BitVec 32 := Scalar.muli arg1 c16_i32_58
  let c0_i32_54 : BitVec 32 := 0#32
  let c1_i32_56 : BitVec 32 := 1#32
  let arg13 : BitVec 32 := Scf.iv c0_i32_54 c1_i32_56 k0_t1
  let v248 : BitVec 32 := Scalar.addi v247 arg13
  let v249 : Index := Scalar.indexCast v248
  ![v249.toNat]
def k0_off2 (i : grid0.Coords) (v250 : BitVec 32) (v252 : BitVec 32) : Fin 4 → Nat :=
  let c0_64 : Index := 0#32
  let arg0 : BitVec 32 := BitVec.ofNat 32 (i 0).val
  let c25_i32 : BitVec 32 := 25#32
  let v256 : BitVec 32 := Scalar.muli arg0 c25_i32
  let v257 : BitVec 32 := Scalar.subi v250 v256
  let v270 : Index := Scalar.indexCast v257
  let c8_i32 : BitVec 32 := 8#32
  let v253 : BitVec 32 := Scalar.muli v252 c8_i32
  let v271 : Index := Scalar.indexCast v253
  let c0_65 : Index := 0#32
  ![0, v270.toNat, v271.toNat, 0]
def k0_cond2 (i : grid0.Coords) (v250 : BitVec 32) (v255 : BitVec 32) : BitVec 1 :=
  let c1_i32_62 : BitVec 32 := 1#32
  let v266 : BitVec 1 := Scalar.cmpi .eq v255 c1_i32_62
  let arg0 : BitVec 32 := BitVec.ofNat 32 (i 0).val
  let c25_i32_59 : BitVec 32 := 25#32
  let v258 : BitVec 32 := Scalar.muli arg0 c25_i32_59
  let v259 : BitVec 1 := Scalar.cmpi .sge v250 v258
  let c1_i32_60 : BitVec 32 := 1#32
  let v260 : BitVec 32 := Scalar.addi arg0 c1_i32_60
  let c25_i32_61 : BitVec 32 := 25#32
  let v261 : BitVec 32 := Scalar.muli v260 c25_i32_61
  let v262 : BitVec 1 := Scalar.cmpi .slt v250 v261
  let c7_i32 : BitVec 32 := 7#32
  let v263 : BitVec 1 := Scalar.cmpi .eq arg0 c7_i32
  let v264 : BitVec 1 := Scalar.ori v262 v263
  let v265 : BitVec 1 := Scalar.andi v259 v264
  let v267 : BitVec 1 := Scalar.andi v266 v265
  let v268 : BitVec 32 := Scalar.extui v267
  let c0_i32_63 : BitVec 32 := 0#32
  let v269 : BitVec 1 := Scalar.cmpi .ne v268 c0_i32_63
  v269

def k0_chk1 (i : grid0.Coords) (v250 : BitVec 32) (v252 : BitVec 32) (v255 : BitVec 32) : Prop :=
  (∀ (k0_h2 : k0_cond2 i v250 v255 = 1#1), ∀ a, (k0_off2 i v250 v252) a + S1x8x16x512.size a ≤ S1x33x208x512.size a)
theorem k0_off2_inb : ∀ (i : grid0.Coords) (v250 : BitVec 32) (v252 : BitVec 32) (v255 : BitVec 32) (k0_hw1 : k0_chk1 i v250 v252 v255), ∀ (k0_h2 : k0_cond2 i v250 v255 = 1#1), ∀ a, (k0_off2 i v250 v252) a + S1x8x16x512.size a ≤ S1x33x208x512.size a := fun i v250 v252 v255 k0_hw1 k0_h2 => k0_hw1 k0_h2

def k0_off3 (k0_t1 : Fin k0_t1_loop.trips) : Fin 4 → Nat :=
  let c0_i32_54 : BitVec 32 := 0#32
  let c1_i32_56 : BitVec 32 := 1#32
  let arg13 : BitVec 32 := Scf.iv c0_i32_54 c1_i32_56 k0_t1
  let v274 : Index := Scalar.indexCast arg13
  let c0_66 : Index := 0#32
  let c0_67 : Index := 0#32
  let c0_68 : Index := 0#32
  ![v274.toNat, 0, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S16x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S16x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S16x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x33x208x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x3 : Shape := ⟨2, ![16384, 3]⟩
abbrev S16384x1 : Shape := ⟨2, ![16384, 1]⟩
abbrev S16384x3x3 : Shape := ⟨3, ![16384, 3, 3]⟩
abbrev S16384x16 : Shape := ⟨2, ![16384, 16]⟩
abbrev S3 : Shape := ⟨1, ![3]⟩
abbrev S_ : Shape := ⟨0, ![]⟩
abbrev S3x1 : Shape := ⟨2, ![3, 1]⟩
abbrev S3x2 : Shape := ⟨2, ![3, 2]⟩
abbrev S1x3 : Shape := ⟨2, ![1, 3]⟩
abbrev S16384 : Shape := ⟨1, ![16384]⟩
abbrev S8 : Shape := ⟨1, ![8]⟩
abbrev S8x8x8 : Shape := ⟨3, ![8, 8, 8]⟩
abbrev S8x8x8x1 : Shape := ⟨4, ![8, 8, 8, 1]⟩
abbrev S8x8x8x3 : Shape := ⟨4, ![8, 8, 8, 3]⟩
abbrev S512x3 : Shape := ⟨2, ![512, 3]⟩
abbrev S16384x1x3 : Shape := ⟨3, ![16384, 1, 3]⟩
abbrev S1x512x3 : Shape := ⟨3, ![1, 512, 3]⟩
abbrev S16384x512x3 : Shape := ⟨3, ![16384, 512, 3]⟩
abbrev S16384x512 : Shape := ⟨2, ![16384, 512]⟩
abbrev S1x1x3 : Shape := ⟨3, ![1, 1, 3]⟩
abbrev S16384x1x1 : Shape := ⟨3, ![16384, 1, 1]⟩
abbrev S16384x3x512 : Shape := ⟨3, ![16384, 3, 512]⟩
abbrev S16384x512x1 : Shape := ⟨3, ![16384, 512, 1]⟩
abbrev S640000 : Shape := ⟨1, ![640000]⟩
abbrev S8388608 : Shape := ⟨1, ![8388608]⟩
abbrev S8388608x1 : Shape := ⟨2, ![8388608, 1]⟩
abbrev S16384x1x16 : Shape := ⟨3, ![16384, 1, 16]⟩
abbrev S16384x512x16 : Shape := ⟨3, ![16384, 512, 16]⟩
abbrev S640000x16 : Shape := ⟨2, ![640000, 16]⟩
abbrev S8388608x16 : Shape := ⟨2, ![8388608, 16]⟩
abbrev S200x200x16x1 : Shape := ⟨4, ![200, 200, 16, 1]⟩
abbrev S200x200x16x16 : Shape := ⟨4, ![200, 200, 16, 16]⟩

abbrev nBuf : Space → Nat
  | .hbm => 359
  | .vmem => 0
  | .smem => 0
  | _ => 0

abbrev hbmTy0_0 (i : Nat) : BufTy := match i % 128 with
  | 0 => ⟨S16384x3, .f32⟩
  | 1 => ⟨S16384x1, .f32⟩
  | 2 => ⟨S16384x3x3, .f32⟩
  | 3 => ⟨S16384x16, .f32⟩
  | 4 => ⟨S3, .f32⟩
  | 5 => ⟨S3, .f32⟩
  | 6 => ⟨S3, .i32⟩
  | 7 => ⟨S3, .i32⟩
  | 8 => ⟨S3, .i32⟩
  | 9 => ⟨S_, .i32⟩
  | 10 => ⟨S3, .i32⟩
  | 11 => ⟨S3, .i1⟩
  | 12 => ⟨S_, .i32⟩
  | 13 => ⟨S3, .i32⟩
  | 14 => ⟨S3, .i32⟩
  | 15 => ⟨S3, .i32⟩
  | 16 => ⟨S_, .i32⟩
  | 17 => ⟨S3, .i32⟩
  | 18 => ⟨S3, .i1⟩
  | 19 => ⟨S_, .i32⟩
  | 20 => ⟨S3, .i32⟩
  | 21 => ⟨S3, .i32⟩
  | 22 => ⟨S3, .i32⟩
  | 23 => ⟨S3x1, .i32⟩
  | 24 => ⟨S3x1, .i32⟩
  | 25 => ⟨S3x2, .i32⟩
  | 26 => ⟨S16384x3, .f32⟩
  | 27 => ⟨S16384x3, .f32⟩
  | 28 => ⟨S_, .f32⟩
  | 29 => ⟨S16384x3, .f32⟩
  | 30 => ⟨S16384x3, .f32⟩
  | 31 => ⟨S16384x3, .f32⟩
  | 32 => ⟨S_, .f32⟩
  | 33 => ⟨S16384x3, .f32⟩
  | 34 => ⟨S16384x3, .f32⟩
  | 35 => ⟨S16384x3, .f32⟩
  | 36 => ⟨S1x3, .f32⟩
  | 37 => ⟨S16384x3, .f32⟩
  | 38 => ⟨S16384x3, .i1⟩
  | 39 => ⟨S_, .i1⟩
  | 40 => ⟨S16384, .i1⟩
  | 41 => ⟨S1x3, .f32⟩
  | 42 => ⟨S16384x3, .f32⟩
  | 43 => ⟨S16384x3, .i1⟩
  | 44 => ⟨S_, .i1⟩
  | 45 => ⟨S16384, .i1⟩
  | 46 => ⟨S16384, .i1⟩
  | 47 => ⟨S16384, .f32⟩
  | 48 => ⟨S_, .f32⟩
  | 49 => ⟨S16384, .f32⟩
  | 50 => ⟨S16384, .i1⟩
  | 51 => ⟨S16384, .i1⟩
  | 52 => ⟨S1x3, .f32⟩
  | 53 => ⟨S16384x3, .f32⟩
  | 54 => ⟨S16384x3, .f32⟩
  | 55 => ⟨S1x3, .f32⟩
  | 56 => ⟨S16384x3, .f32⟩
  | 57 => ⟨S16384x3, .f32⟩
  | 58 => ⟨S1x3, .f32⟩
  | 59 => ⟨S16384x3, .f32⟩
  | 60 => ⟨S16384x3, .f32⟩
  | 61 => ⟨S1x3, .f32⟩
  | 62 => ⟨S16384x3, .f32⟩
  | 63 => ⟨S16384x3, .f32⟩
  | 64 => ⟨S1x3, .f32⟩
  | 65 => ⟨S16384x3, .f32⟩
  | 66 => ⟨S16384x3, .f32⟩
  | 67 => ⟨S_, .f32⟩
  | 68 => ⟨S16384x3, .f32⟩
  | 69 => ⟨S16384x3, .f32⟩
  | 70 => ⟨S16384x3, .i32⟩
  | 71 => ⟨S_, .i32⟩
  | 72 => ⟨S16384x3, .i32⟩
  | 73 => ⟨S16384x3, .i32⟩
  | 74 => ⟨S1x3, .f32⟩
  | 75 => ⟨S16384x3, .f32⟩
  | 76 => ⟨S16384x3, .f32⟩
  | 77 => ⟨S_, .f32⟩
  | 78 => ⟨S16384x3, .f32⟩
  | 79 => ⟨S16384x3, .f32⟩
  | 80 => ⟨S16384x3, .i32⟩
  | 81 => ⟨S_, .i32⟩
  | 82 => ⟨S3, .i32⟩
  | 83 => ⟨S3, .i32⟩
  | 84 => ⟨S1x3, .i32⟩
  | 85 => ⟨S16384x3, .i32⟩
  | 86 => ⟨S16384x3, .i32⟩
  | 87 => ⟨S8, .i32⟩
  | 88 => ⟨S8x8x8, .i32⟩
  | 89 => ⟨S8x8x8, .i32⟩
  | 90 => ⟨S8x8x8, .i32⟩
  | 91 => ⟨S8x8x8x1, .i32⟩
  | 92 => ⟨S8x8x8x1, .i32⟩
  | 93 => ⟨S8x8x8x1, .i32⟩
  | 94 => ⟨S8x8x8x3, .i32⟩
  | 95 => ⟨S512x3, .i32⟩
  | 96 => ⟨S16384x1x3, .i32⟩
  | 97 => ⟨S1x512x3, .i32⟩
  | 98 => ⟨S16384x512x3, .i32⟩
  | 99 => ⟨S16384x512x3, .i32⟩
  | 100 => ⟨S16384x512x3, .i32⟩
  | 101 => ⟨S1x512x3, .i32⟩
  | 102 => ⟨S16384x3, .i32⟩
  | 103 => ⟨S16384x1x3, .i32⟩
  | 104 => ⟨S16384x512x3, .i32⟩
  | 105 => ⟨S16384x512x3, .i32⟩
  | 106 => ⟨S16384x512x3, .i1⟩
  | 107 => ⟨S_, .i1⟩
  | 108 => ⟨S16384x512, .i1⟩
  | 109 => ⟨S16384x1, .i1⟩
  | 110 => ⟨S16384x512, .i1⟩
  | 111 => ⟨S16384x512, .i1⟩
  | 112 => ⟨S16384x512x3, .f32⟩
  | 113 => ⟨S_, .f32⟩
  | 114 => ⟨S16384x512x3, .f32⟩
  | 115 => ⟨S16384x512x3, .f32⟩
  | 116 => ⟨S1x1x3, .f32⟩
  | 117 => ⟨S16384x512x3, .f32⟩
  | 118 => ⟨S16384x512x3, .f32⟩
  | 119 => ⟨S_, .f32⟩
  | 120 => ⟨S16384x512x3, .f32⟩
  | 121 => ⟨S16384x512x3, .f32⟩
  | 122 => ⟨S16384x1x3, .f32⟩
  | 123 => ⟨S16384x512x3, .f32⟩
  | 124 => ⟨S16384x512x3, .f32⟩
  | 125 => ⟨S16384x1x1, .f32⟩
  | 126 => ⟨S16384, .f32⟩
  | 127 => ⟨S16384x1x1, .f32⟩
  | _ => ⟨S16384x3, .f32⟩

abbrev hbmTy0_1 (i : Nat) : BufTy := match i % 128 with
  | 0 => ⟨S16384, .f32⟩
  | 1 => ⟨S16384x1x1, .f32⟩
  | 2 => ⟨S16384, .f32⟩
  | 3 => ⟨S16384, .f32⟩
  | 4 => ⟨S16384x1x1, .f32⟩
  | 5 => ⟨S16384, .f32⟩
  | 6 => ⟨S16384x1x1, .f32⟩
  | 7 => ⟨S16384, .f32⟩
  | 8 => ⟨S16384, .f32⟩
  | 9 => ⟨S16384, .f32⟩
  | 10 => ⟨S16384, .f32⟩
  | 11 => ⟨S16384x1x1, .f32⟩
  | 12 => ⟨S16384, .f32⟩
  | 13 => ⟨S16384x1x1, .f32⟩
  | 14 => ⟨S16384, .f32⟩
  | 15 => ⟨S16384x1x1, .f32⟩
  | 16 => ⟨S16384, .f32⟩
  | 17 => ⟨S16384, .f32⟩
  | 18 => ⟨S16384x1x1, .f32⟩
  | 19 => ⟨S16384, .f32⟩
  | 20 => ⟨S16384x1x1, .f32⟩
  | 21 => ⟨S16384, .f32⟩
  | 22 => ⟨S16384, .f32⟩
  | 23 => ⟨S16384, .f32⟩
  | 24 => ⟨S16384, .f32⟩
  | 25 => ⟨S16384, .f32⟩
  | 26 => ⟨S16384x1x1, .f32⟩
  | 27 => ⟨S16384, .f32⟩
  | 28 => ⟨S16384x1x1, .f32⟩
  | 29 => ⟨S16384, .f32⟩
  | 30 => ⟨S16384x1x1, .f32⟩
  | 31 => ⟨S16384, .f32⟩
  | 32 => ⟨S16384, .f32⟩
  | 33 => ⟨S16384x1x1, .f32⟩
  | 34 => ⟨S16384, .f32⟩
  | 35 => ⟨S16384x1x1, .f32⟩
  | 36 => ⟨S16384, .f32⟩
  | 37 => ⟨S16384, .f32⟩
  | 38 => ⟨S16384, .f32⟩
  | 39 => ⟨S16384, .f32⟩
  | 40 => ⟨S16384, .f32⟩
  | 41 => ⟨S16384x1x1, .f32⟩
  | 42 => ⟨S16384, .f32⟩
  | 43 => ⟨S16384x1x1, .f32⟩
  | 44 => ⟨S16384, .f32⟩
  | 45 => ⟨S16384, .f32⟩
  | 46 => ⟨S16384x1x1, .f32⟩
  | 47 => ⟨S16384, .f32⟩
  | 48 => ⟨S16384x1x1, .f32⟩
  | 49 => ⟨S16384, .f32⟩
  | 50 => ⟨S16384, .f32⟩
  | 51 => ⟨S16384, .f32⟩
  | 52 => ⟨S16384x1x1, .f32⟩
  | 53 => ⟨S16384, .f32⟩
  | 54 => ⟨S16384x1x1, .f32⟩
  | 55 => ⟨S16384, .f32⟩
  | 56 => ⟨S16384, .f32⟩
  | 57 => ⟨S16384x1x1, .f32⟩
  | 58 => ⟨S16384, .f32⟩
  | 59 => ⟨S16384x1x1, .f32⟩
  | 60 => ⟨S16384, .f32⟩
  | 61 => ⟨S16384, .f32⟩
  | 62 => ⟨S16384, .f32⟩
  | 63 => ⟨S16384x1x1, .f32⟩
  | 64 => ⟨S16384, .f32⟩
  | 65 => ⟨S16384x1x1, .f32⟩
  | 66 => ⟨S16384, .f32⟩
  | 67 => ⟨S16384, .f32⟩
  | 68 => ⟨S16384x1x1, .f32⟩
  | 69 => ⟨S16384, .f32⟩
  | 70 => ⟨S16384x1x1, .f32⟩
  | 71 => ⟨S16384, .f32⟩
  | 72 => ⟨S16384, .f32⟩
  | 73 => ⟨S16384, .f32⟩
  | 74 => ⟨S16384x1, .f32⟩
  | 75 => ⟨S16384x1, .f32⟩
  | 76 => ⟨S16384x1, .f32⟩
  | 77 => ⟨S16384x3, .f32⟩
  | 78 => ⟨S16384x1x1, .f32⟩
  | 79 => ⟨S16384, .f32⟩
  | 80 => ⟨S16384x1x1, .f32⟩
  | 81 => ⟨S16384, .f32⟩
  | 82 => ⟨S16384, .f32⟩
  | 83 => ⟨S16384x1x1, .f32⟩
  | 84 => ⟨S16384, .f32⟩
  | 85 => ⟨S16384x1x1, .f32⟩
  | 86 => ⟨S16384, .f32⟩
  | 87 => ⟨S16384, .f32⟩
  | 88 => ⟨S16384, .f32⟩
  | 89 => ⟨S16384x1x1, .f32⟩
  | 90 => ⟨S16384, .f32⟩
  | 91 => ⟨S16384x1x1, .f32⟩
  | 92 => ⟨S16384, .f32⟩
  | 93 => ⟨S16384, .f32⟩
  | 94 => ⟨S16384x1x1, .f32⟩
  | 95 => ⟨S16384, .f32⟩
  | 96 => ⟨S16384x1x1, .f32⟩
  | 97 => ⟨S16384, .f32⟩
  | 98 => ⟨S16384, .f32⟩
  | 99 => ⟨S16384, .f32⟩
  | 100 => ⟨S16384x1x1, .f32⟩
  | 101 => ⟨S16384, .f32⟩
  | 102 => ⟨S16384x1x1, .f32⟩
  | 103 => ⟨S16384, .f32⟩
  | 104 => ⟨S16384, .f32⟩
  | 105 => ⟨S16384x1x1, .f32⟩
  | 106 => ⟨S16384, .f32⟩
  | 107 => ⟨S16384x1x1, .f32⟩
  | 108 => ⟨S16384, .f32⟩
  | 109 => ⟨S16384, .f32⟩
  | 110 => ⟨S16384, .f32⟩
  | 111 => ⟨S16384x1, .f32⟩
  | 112 => ⟨S16384x1, .f32⟩
  | 113 => ⟨S16384x1, .f32⟩
  | 114 => ⟨S16384x3, .f32⟩
  | 115 => ⟨S16384x1x1, .f32⟩
  | 116 => ⟨S16384, .f32⟩
  | 117 => ⟨S16384x1x1, .f32⟩
  | 118 => ⟨S16384, .f32⟩
  | 119 => ⟨S16384, .f32⟩
  | 120 => ⟨S16384x1x1, .f32⟩
  | 121 => ⟨S16384, .f32⟩
  | 122 => ⟨S16384x1x1, .f32⟩
  | 123 => ⟨S16384, .f32⟩
  | 124 => ⟨S16384, .f32⟩
  | 125 => ⟨S16384, .f32⟩
  | 126 => ⟨S16384x1x1, .f32⟩
  | 127 => ⟨S16384, .f32⟩
  | _ => ⟨S16384x3, .f32⟩

abbrev hbmTy0_2 (i : Nat) : BufTy := match i % 128 with
  | 0 => ⟨S16384x1x1, .f32⟩
  | 1 => ⟨S16384, .f32⟩
  | 2 => ⟨S16384, .f32⟩
  | 3 => ⟨S16384x1x1, .f32⟩
  | 4 => ⟨S16384, .f32⟩
  | 5 => ⟨S16384x1x1, .f32⟩
  | 6 => ⟨S16384, .f32⟩
  | 7 => ⟨S16384, .f32⟩
  | 8 => ⟨S16384, .f32⟩
  | 9 => ⟨S16384x1x1, .f32⟩
  | 10 => ⟨S16384, .f32⟩
  | 11 => ⟨S16384x1x1, .f32⟩
  | 12 => ⟨S16384, .f32⟩
  | 13 => ⟨S16384, .f32⟩
  | 14 => ⟨S16384x1x1, .f32⟩
  | 15 => ⟨S16384, .f32⟩
  | 16 => ⟨S16384x1x1, .f32⟩
  | 17 => ⟨S16384, .f32⟩
  | 18 => ⟨S16384, .f32⟩
  | 19 => ⟨S16384, .f32⟩
  | 20 => ⟨S16384x1, .f32⟩
  | 21 => ⟨S16384x1, .f32⟩
  | 22 => ⟨S16384x1, .f32⟩
  | 23 => ⟨S16384x3, .f32⟩
  | 24 => ⟨S16384x1x3, .f32⟩
  | 25 => ⟨S16384x1x3, .f32⟩
  | 26 => ⟨S16384x1x3, .f32⟩
  | 27 => ⟨S16384x3x3, .f32⟩
  | 28 => ⟨S16384x1x1, .f32⟩
  | 29 => ⟨S16384x3x3, .f32⟩
  | 30 => ⟨S16384x3x3, .f32⟩
  | 31 => ⟨S16384x3x512, .f32⟩
  | 32 => ⟨S16384x512, .f32⟩
  | 33 => ⟨S_, .f32⟩
  | 34 => ⟨S16384x512, .f32⟩
  | 35 => ⟨S16384x512, .f32⟩
  | 36 => ⟨S16384x512, .f32⟩
  | 37 => ⟨S16384x512, .f32⟩
  | 38 => ⟨S16384x512, .f32⟩
  | 39 => ⟨S16384x512, .f32⟩
  | 40 => ⟨S16384x512, .f32⟩
  | 41 => ⟨S_, .i32⟩
  | 42 => ⟨S3, .i32⟩
  | 43 => ⟨S3, .i32⟩
  | 44 => ⟨S_, .i32⟩
  | 45 => ⟨S_, .i32⟩
  | 46 => ⟨S16384x512x3, .i32⟩
  | 47 => ⟨S16384x512x3, .i32⟩
  | 48 => ⟨S1x1x3, .i32⟩
  | 49 => ⟨S16384x512x3, .i32⟩
  | 50 => ⟨S16384x512x3, .i32⟩
  | 51 => ⟨S16384x512x1, .i32⟩
  | 52 => ⟨S16384x512, .i32⟩
  | 53 => ⟨S_, .i32⟩
  | 54 => ⟨S16384x512, .i32⟩
  | 55 => ⟨S16384x512, .i32⟩
  | 56 => ⟨S16384x512x1, .i32⟩
  | 57 => ⟨S16384x512, .i32⟩
  | 58 => ⟨S16384x512, .i32⟩
  | 59 => ⟨S_, .i32⟩
  | 60 => ⟨S16384x512, .i32⟩
  | 61 => ⟨S16384x512, .i32⟩
  | 62 => ⟨S16384x512x1, .i32⟩
  | 63 => ⟨S16384x512, .i32⟩
  | 64 => ⟨S16384x512, .i32⟩
  | 65 => ⟨S_, .f32⟩
  | 66 => ⟨S640000, .f32⟩
  | 67 => ⟨S8388608, .i32⟩
  | 68 => ⟨S8388608, .f32⟩
  | 69 => ⟨S_, .i32⟩
  | 70 => ⟨S8388608, .i32⟩
  | 71 => ⟨S8388608, .i1⟩
  | 72 => ⟨S_, .i32⟩
  | 73 => ⟨S8388608, .i32⟩
  | 74 => ⟨S8388608, .i32⟩
  | 75 => ⟨S8388608, .i32⟩
  | 76 => ⟨S8388608x1, .i32⟩
  | 77 => ⟨S640000, .f32⟩
  | 78 => ⟨S16384x512x1, .f32⟩
  | 79 => ⟨S16384x1x16, .f32⟩
  | 80 => ⟨S16384x512x16, .f32⟩
  | 81 => ⟨S16384x512x16, .f32⟩
  | 82 => ⟨S16384x512x16, .f32⟩
  | 83 => ⟨S_, .f32⟩
  | 84 => ⟨S640000x16, .f32⟩
  | 85 => ⟨S8388608, .i32⟩
  | 86 => ⟨S8388608x16, .f32⟩
  | 87 => ⟨S_, .i32⟩
  | 88 => ⟨S8388608, .i32⟩
  | 89 => ⟨S8388608, .i1⟩
  | 90 => ⟨S_, .i32⟩
  | 91 => ⟨S8388608, .i32⟩
  | 92 => ⟨S8388608, .i32⟩
  | 93 => ⟨S8388608, .i32⟩
  | 94 => ⟨S8388608x1, .i32⟩
  | 95 => ⟨S640000x16, .f32⟩
  | 96 => ⟨S200x200x16x1, .f32⟩
  | 97 => ⟨S200x200x16x16, .f32⟩
  | 98 => ⟨S_, .f32⟩
  | 99 => ⟨S200x200x16x1, .f32⟩
  | 100 => ⟨S200x200x16x1, .f32⟩
  | 101 => ⟨S200x200x16x16, .f32⟩
  | 102 => ⟨S200x200x16x16, .f32⟩
  | _ => ⟨S16384x3, .f32⟩

abbrev hbmTy (i : Nat) : BufTy := match i / 128 with
  | 0 => hbmTy0_0 i
  | 1 => hbmTy0_1 i
  | 2 => hbmTy0_2 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_c : Ref sig .tc := ⟨.hbm, 9, rfl⟩
abbrev main_call0_v2 : Ref sig .tc := ⟨.hbm, 10, rfl⟩
abbrev main_call0_v3 : Ref sig .tc := ⟨.hbm, 11, rfl⟩
abbrev main_call0_c_0 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_c_1 : Ref sig .tc := ⟨.hbm, 16, rfl⟩
abbrev main_call0_v7 : Ref sig .tc := ⟨.hbm, 17, rfl⟩
abbrev main_call0_v8 : Ref sig .tc := ⟨.hbm, 18, rfl⟩
abbrev main_call0_c_2 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v0 : Ref sig .tc := ⟨.hbm, 26, rfl⟩
abbrev main_v1 : Ref sig .tc := ⟨.hbm, 27, rfl⟩
abbrev main_cst_1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_2 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_c_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_v21 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_cst_6 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_c_7 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_8 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_c_9 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_c_10 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_cst_11 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_12 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_v200 : Ref sig .tc := ⟨.hbm, 248, rfl⟩
abbrev main_v201 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_v238 : Ref sig .tc := ⟨.hbm, 286, rfl⟩
abbrev main_v239 : Ref sig .tc := ⟨.hbm, 287, rfl⟩
abbrev main_v240 : Ref sig .tc := ⟨.hbm, 288, rfl⟩
abbrev main_cst_13 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_c_14 : Ref sig .tc := ⟨.hbm, 297, rfl⟩
abbrev main_v248 : Ref sig .tc := ⟨.hbm, 298, rfl⟩
abbrev main_v249 : Ref sig .tc := ⟨.hbm, 299, rfl⟩
abbrev main_c_15 : Ref sig .tc := ⟨.hbm, 300, rfl⟩
abbrev main_call3_v0 : Ref sig .tc := ⟨.hbm, 301, rfl⟩
abbrev main_call3_v1 : Ref sig .tc := ⟨.hbm, 302, rfl⟩
abbrev main_call3_v2 : Ref sig .tc := ⟨.hbm, 303, rfl⟩
abbrev main_call3_v3 : Ref sig .tc := ⟨.hbm, 304, rfl⟩
abbrev main_call3_v4 : Ref sig .tc := ⟨.hbm, 305, rfl⟩
abbrev main_v250 : Ref sig .tc := ⟨.hbm, 306, rfl⟩
abbrev main_v251 : Ref sig .tc := ⟨.hbm, 307, rfl⟩
abbrev main_v252 : Ref sig .tc := ⟨.hbm, 308, rfl⟩
abbrev main_c_16 : Ref sig .tc := ⟨.hbm, 309, rfl⟩
abbrev main_v253 : Ref sig .tc := ⟨.hbm, 310, rfl⟩
abbrev main_v254 : Ref sig .tc := ⟨.hbm, 311, rfl⟩
abbrev main_v255 : Ref sig .tc := ⟨.hbm, 312, rfl⟩
abbrev main_v256 : Ref sig .tc := ⟨.hbm, 313, rfl⟩
abbrev main_v257 : Ref sig .tc := ⟨.hbm, 314, rfl⟩
abbrev main_c_17 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_cst_18 : Ref sig .tc := ⟨.hbm, 321, rfl⟩
abbrev main_v263 : Ref sig .tc := ⟨.hbm, 322, rfl⟩
abbrev main_v264 : Ref sig .tc := ⟨.hbm, 323, rfl⟩
abbrev main_v265 : Ref sig .tc := ⟨.hbm, 324, rfl⟩
abbrev main_c_19 : Ref sig .tc := ⟨.hbm, 325, rfl⟩
abbrev main_v266 : Ref sig .tc := ⟨.hbm, 326, rfl⟩
abbrev main_v267 : Ref sig .tc := ⟨.hbm, 327, rfl⟩
abbrev main_c_20 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_cst_21 : Ref sig .tc := ⟨.hbm, 339, rfl⟩
abbrev main_v278 : Ref sig .tc := ⟨.hbm, 340, rfl⟩
abbrev main_v279 : Ref sig .tc := ⟨.hbm, 341, rfl⟩
abbrev main_v280 : Ref sig .tc := ⟨.hbm, 342, rfl⟩
abbrev main_c_22 : Ref sig .tc := ⟨.hbm, 343, rfl⟩
abbrev main_v281 : Ref sig .tc := ⟨.hbm, 344, rfl⟩
abbrev main_v282 : Ref sig .tc := ⟨.hbm, 345, rfl⟩
abbrev main_c_23 : Ref sig .tc := ⟨.hbm, 346, rfl⟩
abbrev main_v283 : Ref sig .tc := ⟨.hbm, 347, rfl⟩
abbrev main_v284 : Ref sig .tc := ⟨.hbm, 348, rfl⟩
abbrev main_v285 : Ref sig .tc := ⟨.hbm, 349, rfl⟩
abbrev main_v286 : Ref sig .tc := ⟨.hbm, 350, rfl⟩
abbrev main_v287 : Ref sig .tc := ⟨.hbm, 351, rfl⟩
abbrev main_v288 : Ref sig .tc := ⟨.hbm, 352, rfl⟩
abbrev main_v289 : Ref sig .tc := ⟨.hbm, 353, rfl⟩
abbrev main_cst_24 : Ref sig .tc := ⟨.hbm, 354, rfl⟩
abbrev main_v290 : Ref sig .tc := ⟨.hbm, 355, rfl⟩
abbrev main_v291 : Ref sig .tc := ⟨.hbm, 356, rfl⟩
abbrev main_v292 : Ref sig .tc := ⟨.hbm, 357, rfl⟩
abbrev main_v293 : Ref sig .tc := ⟨.hbm, 358, rfl⟩

abbrev nD : Nat := 1
abbrev τ : Topo := Topo.v7x

variable {F : FTy → Type} [FloatOps F]
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.KitQuiescent
public import Idealize.ShloMosaic.Lib.Pipeline.FrameBody
public import Idealize.ShloMosaic.Lib.WritesUnit
public import Idealize.ShloMosaic.Lib.Tactic

@[expose] public section

noncomputable section

namespace Cert.Vox

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- No variants: the body calls nothing. -/
abbrev 𝒱₀ : Variants := Variants.none

/-- A whole buffer of the core at contents `f`. -/
abbrev held (c : Dev nD) {sp : Space} {s : Shape} {e : EltTy} (v : Memref sig .tc sp s e) (f : BufTy.Contents (Elt F) v.view.ty) : sProp 𝕄 :=
  v.view.loc (c : Thread nD τ) ↦{fullShare} f

/-- A table's buffer at the share the region hands the body. -/
abbrev heldT (c : Dev nD) {sp : Space} {s : Shape} {e : EltTy} (v : Memref sig .tc sp s e) (f : BufTy.Contents (Elt F) v.view.ty) : sProp 𝕄 :=
  v.view.loc (c : Thread nD τ) ↦{fullShare.right} f

section Loop

variable (c : Dev nD) (i : grid0.Coords)
  (arg2 : Memref sig .tc .smem S16384 .i32) (harg2 : arg2.IsWhole) (arg3 : Memref sig .tc .smem S16384 .i32) (harg3 : arg3.IsWhole)
  (arg4 : Memref sig .tc .smem S16384 .i32) (harg4 : arg4.IsWhole) (arg5 : Memref sig .tc .vmem S16x3 .f32) (harg5 : arg5.IsWhole)
  (arg6 : Memref sig .tc .vmem S16x1 .f32) (harg6 : arg6.IsWhole) (arg7 : Memref sig .tc .vmem S16x9 .f32) (harg7 : arg7.IsWhole)
  (arg8 : Memref sig .tc .vmem S16x16 .f32) (harg8 : arg8.IsWhole) (arg9 : Memref sig .tc .vmem S16x3 .f32) (harg9 : arg9.IsWhole)
  (arg10 : Memref sig .tc .vmem S16x3 .f32) (harg10 : arg10.IsWhole) (arg11 : Memref sig .tc .vmem S1x33x208x512 .f32) (harg11 : arg11.IsWhole)
  (arg12 : Memref sig .tc .vmem S16x8x16x512 .f32) (harg12 : arg12.IsWhole)
  (T2 : BufTy.Contents (Elt F) arg2.view.ty) (T3 : BufTy.Contents (Elt F) arg3.view.ty) (T4 : BufTy.Contents (Elt F) arg4.view.ty)
  (W : BufTy.Contents (Elt F) arg12.view.ty)

/-- The word of a table that trip `k` of point `i` reads. -/
def word {sp : Space} (arg : Memref sig .tc sp S16384 .i32) (T : BufTy.Contents (Elt F) arg.view.ty) (k : Fin k0_t1_loop.trips) : BitVec 32 :=
  View.readAt (Elt F) arg.view (Rect.unit (s := S16384) (k0_off1 i k) S1.size (k0_off1_inb i k)).toLoadRect T
    (Shape.Idx.first (show 0 < S1.numel by rw [numel1_S1]; exact Nat.one_pos))

/-- One trip on the accumulator's contents: where the Gaussian is kept and starts in the tile, its window is added. -/
def tripR (k : Fin k0_t1_loop.trips) (f : BufTy.Contents (Elt F) arg11.view.ty) : BufTy.Contents (Elt F) arg11.view.ty :=
  if h : k0_cond2 i (word i arg2 T2 k) (word i arg4 T4 k) = 1#1 ∧ k0_chk1 i (word i arg2 T2 k) (word i arg3 T3 k) (word i arg4 T4 k) then
    arg11.view.writes (Elt F) f
      [⟨Rect.unit (s := S1x33x208x512) (k0_off2 i (word i arg2 T2 k) (word i arg3 T3 k)) S1x8x16x512.size (h.2 h.1),
        k0_pay2 (View.readAt (Elt F) arg11.view (Rect.unit (s := S1x33x208x512) (k0_off2 i (word i arg2 T2 k) (word i arg3 T3 k)) S1x8x16x512.size (h.2 h.1)).toLoadRect f)
          (View.readAt (Elt F) arg12.view (Rect.unit (s := S16x8x16x512) (k0_off3 k) S1x8x16x512.size (k0_off3_inb k)).toLoadRect W)⟩]
  else f

/-- The accumulator's contents before trip `k`. -/
def accR (f : BufTy.Contents (Elt F) arg11.view.ty) : ℕ → BufTy.Contents (Elt F) arg11.view.ty
  | 0 => f
  | k + 1 => if h : k < k0_t1_loop.trips then tripR i arg2 arg3 arg4 arg11 arg12 T2 T3 T4 W ⟨k, h⟩ (accR f k) else accR f k

/-- Every trip's window lies in the accumulator. -/
def WordsOk : Prop :=
  ∀ k : Fin k0_t1_loop.trips, k0_chk1 i (word i arg2 T2 k) (word i arg3 T3 k) (word i arg4 T4 k)

theorem trip_run (hok : WordsOk i arg2 arg3 arg4 T2 T3 T4) (k : Fin k0_t1_loop.trips) (f : BufTy.Contents (Elt F) arg11.view.ty) :
    iprop(heldT (F := F) c arg2 T2 ∗ heldT c arg3 T3 ∗ heldT c arg4 T4 ∗ held c arg12 W ∗ held c arg11 f)
      ⊢ wp frame (wpE (defs₀ (F := F)) 𝒱₀ (c : Thread nD τ) none) Set.univ
          (k0_t1_body (F := F) i arg2 harg2 arg3 harg3 arg4 harg4 arg5 harg5 arg6 harg6 arg7 harg7 arg8 harg8 arg9 harg9 arg10 harg10 arg11 harg11 arg12 harg12 k ())
          (fun _ => iprop(heldT (F := F) c arg2 T2 ∗ heldT c arg3 T3 ∗ heldT c arg4 T4 ∗ held c arg12 W
            ∗ held c arg11 (tripR i arg2 arg3 arg4 arg11 arg12 T2 T3 T4 W k f))) := by
  unfold k0_t1_body
  iintro ⟨H2, H3, H4, H12, H11⟩
  sl_exec (disch := exact hok k)
  have e : (if hc : k0_cond2 i (word i arg2 T2 k) (word i arg4 T4 k) = 1#1 then
      arg11.view.writes (Elt F) f
        [⟨Rect.unit (s := S1x33x208x512) (k0_off2 i (word i arg2 T2 k) (word i arg3 T3 k)) S1x8x16x512.size (hok k hc),
            k0_pay2 (View.readAt (Elt F) arg11.view (Rect.unit (s := S1x33x208x512) (k0_off2 i (word i arg2 T2 k) (word i arg3 T3 k)) S1x8x16x512.size (hok k hc)).toLoadRect f)
              (View.readAt (Elt F) arg12.view (Rect.unit (s := S16x8x16x512) (k0_off3 k) S1x8x16x512.size (k0_off3_inb k)).toLoadRect W)⟩]
      else f) = tripR i arg2 arg3 arg4 arg11 arg12 T2 T3 T4 W k f := by
    unfold tripR
    by_cases hc : k0_cond2 i (word i arg2 T2 k) (word i arg4 T4 k) = 1#1
    · have hh := And.intro hc (hok k)
      rw [dif_pos hc, dif_pos hh]
    · rw [dif_neg hc, dif_neg (fun h => hc h.1)]
  rw [← e]
  sl_step
  sl_close

set_option warn.classDefReducibility false in
/-- The loop's invariant: the tables and the windows as they are, the accumulator after the trips so far. -/
@[sl_loop] def loopInv (hok : WordsOk i arg2 arg3 arg4 T2 T3 T4) (f : BufTy.Contents (Elt F) arg11.view.ty) :
    LoopInvTy_k0_t1 (F := F) Unit ℕ (UR sig nD τ) ℕ 𝒱₀ c none Set.univ i arg2 harg2 arg3 harg3 arg4 harg4 arg5 harg5 arg6 harg6 arg7 harg7 arg8 harg8 arg9 harg9 arg10 harg10 arg11 harg11 arg12 harg12 where
  inv k _ := iprop(heldT (F := F) c arg2 T2 ∗ heldT c arg3 T3 ∗ heldT c arg4 T4 ∗ held c arg12 W
      ∗ held c arg11 (accR i arg2 arg3 arg4 arg11 arg12 T2 T3 T4 W f k))
  step k _ := by
    have e : accR i arg2 arg3 arg4 arg11 arg12 T2 T3 T4 W f (k.val + 1)
        = tripR i arg2 arg3 arg4 arg11 arg12 T2 T3 T4 W k (accR i arg2 arg3 arg4 arg11 arg12 T2 T3 T4 W f k) := by
      rw [accR, dif_pos k.isLt]
    rw [e]
    exact trip_run c i arg2 harg2 arg3 harg3 arg4 harg4 arg5 harg5 arg6 harg6 arg7 harg7 arg8 harg8 arg9 harg9 arg10 harg10 arg11 harg11 arg12 harg12 T2 T3 T4 W hok k _

end Loop

/-! ## What the body computes, on the contents its buffers read -/

section Value

variable (i : grid0.Coords)

/-- The windows of the block's sixteen Gaussians, as the body stores them to its scratch buffer: of the means (`X5`), the opacities
(`X6`), the covariances (`X7`), the features (`X8`) and the two corners of the bounding boxes (`X9`, `X10`). -/
def ws (X5 : S16x3.Idx → Elt F .f32) (X6 : S16x1.Idx → Elt F .f32) (X7 : S16x9.Idx → Elt F .f32) (X8 : S16x16.Idx → Elt F .f32)
    (X9 X10 : S16x3.Idx → Elt F .f32) : S16x8x16x512.Idx → Elt F .f32 :=
  let v3 : Vec F S16x1 .f32 := (View.ld X7 (Rect.unit (s := S16x9) ![0, 0] S16x1.size inb_S16x9_S16x1_0_0))
  let v6 : Vec F S16x1 .f32 := (View.ld X7 (Rect.unit (s := S16x9) ![0, 1] S16x1.size inb_S16x9_S16x1_0_1))
  let v9 : Vec F S16x1 .f32 := (View.ld X7 (Rect.unit (s := S16x9) ![0, 2] S16x1.size inb_S16x9_S16x1_0_2))
  let v12 : Vec F S16x1 .f32 := (View.ld X7 (Rect.unit (s := S16x9) ![0, 4] S16x1.size inb_S16x9_S16x1_0_4))
  let v15 : Vec F S16x1 .f32 := (View.ld X7 (Rect.unit (s := S16x9) ![0, 5] S16x1.size inb_S16x9_S16x1_0_5))
  let v18 : Vec F S16x1 .f32 := (View.ld X7 (Rect.unit (s := S16x9) ![0, 8] S16x1.size inb_S16x9_S16x1_0_8))
  let v36 := k0_pay10 v3 v6 v9 v12 v15 v18
  let v65 : IVec S1x1x1x512 32 := iota .tc S1x1x1x512 32 [3] iota_S1x1x1x512_d3_w32
  let v95 := k0_pay23 (F := F) v65 (k0_pay20) (k0_pay21) (k0_pay22)
  let v107 := k0_pay27 (View.ld X9 (Rect.unit (s := S16x3) ![0, 0] S16x1.size inb_S16x3_S16x1_0_0))
  let v108 : Vec F S16x1 .f32 := (View.ld X9 (Rect.unit (s := S16x3) ![0, 1] S16x1.size inb_S16x3_S16x1_0_1))
  let v130 := k0_pay34 v108
  let v98 := k0_pay24 (View.ld X5 (Rect.unit (s := S16x3) ![0, 0] S16x1.size inb_S16x3_S16x1_0_0))
  let v101 := k0_pay25 (View.ld X5 (Rect.unit (s := S16x3) ![0, 1] S16x1.size inb_S16x3_S16x1_0_1))
  let v104 := k0_pay26 (View.ld X5 (Rect.unit (s := S16x3) ![0, 2] S16x1.size inb_S16x3_S16x1_0_2))
  let v110 := k0_pay28 v108
  let v113 := k0_pay29 (View.ld X9 (Rect.unit (s := S16x3) ![0, 2] S16x1.size inb_S16x3_S16x1_0_2))
  let v116 := k0_pay30 (View.ld X10 (Rect.unit (s := S16x3) ![0, 0] S16x1.size inb_S16x3_S16x1_0_0))
  let v119 := k0_pay31 (View.ld X10 (Rect.unit (s := S16x3) ![0, 1] S16x1.size inb_S16x3_S16x1_0_1))
  let v122 := k0_pay32 (View.ld X10 (Rect.unit (s := S16x3) ![0, 2] S16x1.size inb_S16x3_S16x1_0_2))
  let v125 := k0_pay33 (View.ld X6 (Rect.unit (s := S16x1) ![0, 0] S16x1.size inb_S16x1_S16x1_0_0))
  k0_pay1
    (k0_pay41 (k0_pay11 v3 v6 v9 v12 v15 v18) (k0_pay13 (k0_pay6 v9) v36 (k0_pay12 v3 v18)) (k0_pay14 (k0_pay4 v3) (k0_pay5 v6) (k0_pay7 v12) v36)
      (k0_pay15 (k0_pay5 v6) (k0_pay6 v9) (k0_pay8 v15) (k0_pay9 v18) v36) (k0_pay16 (k0_pay5 v6) (k0_pay6 v9) (k0_pay7 v12) (k0_pay8 v15) v36)
      (k0_pay17 (k0_pay4 v3) (k0_pay5 v6) (k0_pay6 v9) (k0_pay8 v15) v36) v122 v125
      (k0_pay35 (k0_pay18 (F := F)) v98 v107) (k0_pay36 (k0_pay19 (F := F)) v101 v130) (k0_pay37 v95 v104) (k0_pay38 v95 v113)
      (k0_pay39 (k0_pay18 (F := F)) (k0_pay19 (F := F)) v110 v116 v119 v130) (k0_pay40 (F := F)))
    (k0_pay42 (View.ld X8 (Rect.unit (s := S16x16) ![0, 0] S16x16.size inb_S16x16_S16x16_0_0)))
    (Scalar.ofBits .f32 0x3F800000#32)

/-- One trip on what the accumulator reads: where the Gaussian is kept and starts in the tile, its window is added. -/
def tripV (wx wy wf : BitVec 32) (W : S16x8x16x512.Idx → Elt F .f32) (k : Fin k0_t1_loop.trips) (X : S1x33x208x512.Idx → Elt F .f32) :
    S1x33x208x512.Idx → Elt F .f32 :=
  if h : k0_cond2 i wx wf = 1#1 ∧ k0_chk1 i wx wy wf then
    fun y => if hy : ∀ a, k0_off2 i wx wy a ≤ (y a).val ∧ (y a).val < k0_off2 i wx wy a + S1x8x16x512.size a then
      k0_pay2 (View.ld X (Rect.unit (s := S1x33x208x512) (k0_off2 i wx wy) S1x8x16x512.size (h.2 h.1)))
        (View.ld W (Rect.unit (s := S16x8x16x512) (k0_off3 k) S1x8x16x512.size (k0_off3_inb k)))
        (Rect.unitLocal (s := S1x33x208x512) (off := k0_off2 i wx wy) (size := S1x8x16x512.size) y hy)
      else X y
  else X

/-- What the accumulator reads before trip `k`. -/
def accV (wx wy wf : Fin k0_t1_loop.trips → BitVec 32) (W : S16x8x16x512.Idx → Elt F .f32) (X : S1x33x208x512.Idx → Elt F .f32) :
    ℕ → S1x33x208x512.Idx → Elt F .f32
  | 0 => X
  | k + 1 => if h : k < k0_t1_loop.trips then tripV i (wx ⟨k, h⟩) (wy ⟨k, h⟩) (wf ⟨k, h⟩) W ⟨k, h⟩ (accV wx wy wf W X k) else accV wx wy wf W X k

/-- What the accumulator reads when the trips start: zero at a tile's first block, else what it read. -/
def startV (X : S1x33x208x512.Idx → Elt F .f32) : S1x33x208x512.Idx → Elt F .f32 :=
  if k0_cond1 i = 1#1 then k0_pay3 (F := F) else X

/-- What the accumulator reads after the body. -/
def bodyV (wx wy wf : Fin k0_t1_loop.trips → BitVec 32) (X5 : S16x3.Idx → Elt F .f32) (X6 : S16x1.Idx → Elt F .f32) (X7 : S16x9.Idx → Elt F .f32)
    (X8 : S16x16.Idx → Elt F .f32) (X9 X10 : S16x3.Idx → Elt F .f32) (X : S1x33x208x512.Idx → Elt F .f32) : S1x33x208x512.Idx → Elt F .f32 :=
  accV i wx wy wf (ws X5 X6 X7 X8 X9 X10) (startV i X) k0_t1_loop.trips

end Value

section Body

variable (c : Dev nD) (i : grid0.Coords)
  (arg2 : Memref sig .tc .smem S16384 .i32) (harg2 : arg2.IsWhole) (arg3 : Memref sig .tc .smem S16384 .i32) (harg3 : arg3.IsWhole)
  (arg4 : Memref sig .tc .smem S16384 .i32) (harg4 : arg4.IsWhole) (arg5 : Memref sig .tc .vmem S16x3 .f32) (harg5 : arg5.IsWhole)
  (arg6 : Memref sig .tc .vmem S16x1 .f32) (harg6 : arg6.IsWhole) (arg7 : Memref sig .tc .vmem S16x9 .f32) (harg7 : arg7.IsWhole)
  (arg8 : Memref sig .tc .vmem S16x16 .f32) (harg8 : arg8.IsWhole) (arg9 : Memref sig .tc .vmem S16x3 .f32) (harg9 : arg9.IsWhole)
  (arg10 : Memref sig .tc .vmem S16x3 .f32) (harg10 : arg10.IsWhole) (arg11 : Memref sig .tc .vmem S1x33x208x512 .f32) (harg11 : arg11.IsWhole)
  (arg12 : Memref sig .tc .vmem S16x8x16x512 .f32) (harg12 : arg12.IsWhole)
  (T2 : BufTy.Contents (Elt F) arg2.view.ty) (T3 : BufTy.Contents (Elt F) arg3.view.ty) (T4 : BufTy.Contents (Elt F) arg4.view.ty)

theorem read_tripR (W : BufTy.Contents (Elt F) arg12.view.ty) (k : Fin k0_t1_loop.trips) (f : BufTy.Contents (Elt F) arg11.view.ty) :
    arg11.view.read (Elt F) (tripR i arg2 arg3 arg4 arg11 arg12 T2 T3 T4 W k f)
      = tripV i (word i arg2 T2 k) (word i arg3 T3 k) (word i arg4 T4 k) (arg12.view.read (Elt F) W) k (arg11.view.read (Elt F) f) := by
  unfold tripR tripV
  split
  · funext y
    rw [View.read_writes_cons_unit _ _ _ _ _ _ rfl]
    rfl
  · rfl

theorem read_accR (W : BufTy.Contents (Elt F) arg12.view.ty) (f : BufTy.Contents (Elt F) arg11.view.ty) (k : ℕ) :
    arg11.view.read (Elt F) (accR i arg2 arg3 arg4 arg11 arg12 T2 T3 T4 W f k)
      = accV i (word i arg2 T2) (word i arg3 T3) (word i arg4 T4) (arg12.view.read (Elt F) W) (arg11.view.read (Elt F) f) k := by
  induction k with
  | zero => rfl
  | succ k ih =>
    rw [accR, accV]
    split
    · rw [read_tripR, ih]
    · exact ih

/-- A write of the whole shape reads back as its payload. -/
theorem read_writes_whole {sp : Space} {s : Shape} {e : EltTy} (v : View sig .tc sp s e) (f : BufTy.Contents (Elt F) v.ty) {off : Fin s.rank → ℕ}
    (ho : ∀ a, off a = 0) (inb : ∀ a, off a + s.size a ≤ s.size a) (w : s.Idx → Elt F e) :
    v.read (Elt F) (v.writes (Elt F) f [⟨Rect.unit (s := s) off s.size inb, w⟩]) = w := by
  funext y
  exact View.read_writes_cons_unit_of_mem v f inb w [] y y rfl (fun a => by rw [ho a, Nat.zero_add])

theorem body_run (hok : WordsOk i arg2 arg3 arg4 T2 T3 T4)
    (X5 : S16x3.Idx → Elt F .f32) (X6 : S16x1.Idx → Elt F .f32) (X7 : S16x9.Idx → Elt F .f32)
    (X8 : S16x16.Idx → Elt F .f32) (X9 X10 : S16x3.Idx → Elt F .f32) (X : S1x33x208x512.Idx → Elt F .f32) (K : PUnit → sProp 𝕄) :
    iprop((heldT (F := F) c arg2 T2 ∗ heldT c arg3 T3 ∗ heldT c arg4 T4 ∗ owns (c : Thread nD τ) arg5 fullShare X5 ∗ owns (c : Thread nD τ) arg6 fullShare X6
          ∗ owns (c : Thread nD τ) arg7 fullShare X7 ∗ owns (c : Thread nD τ) arg8 fullShare X8 ∗ owns (c : Thread nD τ) arg9 fullShare X9
          ∗ owns (c : Thread nD τ) arg10 fullShare X10 ∗ owns (c : Thread nD τ) arg11 fullShare X ∗ ∃ f, held (F := F) c arg12 f)
        ∗ (iprop(heldT (F := F) c arg2 T2 ∗ heldT c arg3 T3 ∗ heldT c arg4 T4 ∗ owns (c : Thread nD τ) arg5 fullShare X5 ∗ owns (c : Thread nD τ) arg6 fullShare X6
          ∗ owns (c : Thread nD τ) arg7 fullShare X7 ∗ owns (c : Thread nD τ) arg8 fullShare X8 ∗ owns (c : Thread nD τ) arg9 fullShare X9
          ∗ owns (c : Thread nD τ) arg10 fullShare X10
          ∗ owns (c : Thread nD τ) arg11 fullShare (bodyV i (word i arg2 T2) (word i arg3 T3) (word i arg4 T4) X5 X6 X7 X8 X9 X10 X)
          ∗ ∃ f, held (F := F) c arg12 f) -∗ K ⟨⟩))
      ⊢ wp frame (wpE (defs₀ (F := F)) 𝒱₀ (c : Thread nD τ) none) Set.univ
          (cc0__vox_kernel (F := F) i arg2 harg2 arg3 harg3 arg4 harg4 arg5 harg5 arg6 harg6 arg7 harg7 arg8 harg8 arg9 harg9 arg10 harg10 arg11 harg11 arg12 harg12) K := by
  simp only [owns, harg5.set_eq_univ, harg6.set_eq_univ, harg7.set_eq_univ, harg8.set_eq_univ, harg9.set_eq_univ, harg10.set_eq_univ, harg11.set_eq_univ]
  iintro ⟨⟨H2, H3, H4, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, H12⟩⟩, Hk⟩
  let L := loopInv c i arg2 harg2 arg3 harg3 arg4 harg4 arg5 harg5 arg6 harg6 arg7 harg7 arg8 harg8 arg9 harg9 arg10 harg10 arg11 harg11 arg12 harg12 T2 T3 T4
  rw [cc0__vox_kernel_eq_skeleton]; unfold cc0__vox_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  sl_exec
  sl_step
  iapply Hk
  isplitl [H2]; · iexact H2
  isplitl [H3]; · iexact H3
  isplitl [H4]; · iexact H4
  isplitl [H5]; · iexists f5; isplitr; · ipureintro; exact h5
                  iexact H5
  isplitl [H6]; · iexists f6; isplitr; · ipureintro; exact h6
                  iexact H6
  isplitl [H7]; · iexists f7; isplitr; · ipureintro; exact h7
                  iexact H7
  isplitl [H8]; · iexists f8; isplitr; · ipureintro; exact h8
                  iexact H8
  isplitl [H9]; · iexists f9; isplitr; · ipureintro; exact h9
                  iexact H9
  isplitl [H10]; · iexists f10; isplitr; · ipureintro; exact h10
                   iexact H10
  isplitl [H11]
  · iexists (accR i arg2 arg3 arg4 arg11 arg12 T2 T3 T4
      (arg12.view.writes (Elt F) arg12.view.junk (body_run.sl.H12_1 arg5 arg6 arg7 arg8 arg9 arg10 f5 f6 f7 f8 f9 f10))
      (if _ : k0_cond1 i = 1#1 then
        arg11.view.writes (Elt F) f11 [⟨Rect.unit (s := S1x33x208x512) ![0, 0, 0, 0] S1x33x208x512.size inb_S1x33x208x512_S1x33x208x512_0_0_0_0, k0_pay3⟩]
       else f11) k0_t1_loop.trips)
    isplitr [H11]; rotate_left; · iexact H11
    ipureintro
    subst h5 h6 h7 h8 h9 h10 h11
    rw [read_accR]
    have hw : arg12.view.read (Elt F) (arg12.view.writes (Elt F) arg12.view.junk (body_run.sl.H12_1 arg5 arg6 arg7 arg8 arg9 arg10 f5 f6 f7 f8 f9 f10))
        = ws (arg5.view.read (Elt F) f5) (arg6.view.read (Elt F) f6) (arg7.view.read (Elt F) f7) (arg8.view.read (Elt F) f8) (arg9.view.read (Elt F) f9) (arg10.view.read (Elt F) f10) :=
      read_writes_whole arg12.view _ (fun a => by fin_cases a <;> rfl) _ _
    rw [hw]
    unfold bodyV startV
    congr 1
    by_cases hc : k0_cond1 i = 1#1
    · rw [if_pos hc, dif_pos hc]
      exact read_writes_whole arg11.view _ (fun a => by fin_cases a <;> rfl) _ _
    · rw [if_neg hc, dif_neg hc]
  · iexists _; iexact H12

end Body

end Cert.Vox

end
-- ==== Proof.Point.lean ====
module

public import proofs.«01_k».proof.Proof.Body

@[expose] public section

noncomputable section

namespace Cert.Vox

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-! ## The grid's points -/

theorem coords_0 (t : Fin grid0.N) : (grid0.coords t 0).val = t.val / 1024 := by
  have ht : t.val < 8192 := lt_of_lt_of_eq t.isLt N_0
  show t.val / grid0.stride 0 % 8 = _
  rw [show grid0.stride 0 = 1024 from by decide]
  exact Nat.mod_eq_of_lt (by omega)

theorem coords_1 (t : Fin grid0.N) : (grid0.coords t 1).val = t.val % 1024 := by
  show t.val / grid0.stride 1 % 1024 = _
  rw [show grid0.stride 1 = 1 from by decide, Nat.div_one]

/-- The block of the sixteen Gaussians a point reads: the point's second coordinate. -/
theorem index_in (i : grid0.Coords) : (BitVec.ofNat 32 (i 1).val).toNat = (i 1).val := by
  rw [BitVec.toNat_ofNat]; exact Nat.mod_eq_of_lt (lt_trans (show (i 1).val < 1024 from (i 1).isLt) (by decide))

theorem index_out (i : grid0.Coords) : (BitVec.ofNat 32 (i 0).val).toNat = (i 0).val := by
  rw [BitVec.toNat_ofNat]; exact Nat.mod_eq_of_lt (lt_trans (show (i 0).val < 8 from (i 0).isLt) (by decide))

/-- The accumulator is reset at a tile's first block. -/
theorem cond1_iff (i : grid0.Coords) : k0_cond1 i = 1#1 ↔ (i 1).val = 0 := by
  have h : (i 1).val < 1024 := (i 1).isLt
  have hb : BitVec.ofNat 32 (i 1).val = 0#32 ↔ (i 1).val = 0 := by
    constructor
    · intro e
      have := index_in i
      rw [e] at this
      simpa using this.symm
    · intro e; rw [e]
  rw [← hb]
  unfold k0_cond1
  simp only [Scalar.cmpi, Scalar.extui]
  generalize BitVec.ofNat 32 (i 1).val = x
  by_cases hx : x = 0#32
  · subst hx; decide
  · simp only [IntOp.cmpi, hx, iff_false]
    rw [beq_eq_false_iff_ne.2 hx]
    decide

variable (V : Dev nD → Valuation τ sig (Elt F))

/-- The three tables as the prefix leaves them. -/
def adm : (pcfg0 (F := F)).Adm := ⟨fun k => V 0 (Proc.devRef .tc (pre0.ref k)), trivial⟩

/-- Window 6 is written back at each tile's last block, and nowhere else. -/
theorem flush_6 (t : Fin grid0.N) : ((cfg0 (adm V)).win (6 : Fin 7)).flush t = decide (t.val % 1024 = 1023) := by
  have ht : t.val < 8192 := lt_of_lt_of_eq t.isLt N_0
  have hidx : ∀ s : Fin grid0.N, ((cfg0 (adm V)).win (6 : Fin 7)).index s = ![s.val / 1024, 0, 0, 0] := by
    intro s
    have : ((cfg0 (adm V)).win (6 : Fin 7)).index s = ![(BitVec.ofNat 32 (grid0.coords s 0).val).toNat, 0, 0, 0] := rfl
    rw [this, index_out, coords_0]
  unfold Window.flush
  rw [show ((cfg0 (adm V)).win (6 : Fin 7)).isOut = true from rfl, Bool.true_and]
  have hN : grid0.N = 8192 := N_0
  rw [Bool.eq_iff_iff]
  simp only [Bool.or_eq_true, decide_eq_true_eq]
  constructor
  · rintro (h | ⟨h, hne⟩)
    · have h' : t.val + 1 = grid0.N := h
      omega
    · have h' : t.val + 1 < grid0.N := h
      rw [hidx, hidx] at hne
      by_contra hc
      apply hne
      have : (t.val + 1) / 1024 = t.val / 1024 := by omega
      simp only [this]
  · intro h
    by_cases hl : t.val + 1 = 8192
    · left; exact hl.trans hN.symm
    · right
      refine ⟨show t.val + 1 < grid0.N by omega, ?_⟩
      rw [hidx, hidx]
      intro e
      have e0 : (t.val + 1) / 1024 = t.val / 1024 := congrFun e 0
      omega

/-! ## What the pipeline holds -/

/-- The contents of window `w`'s array at the region's start. -/
def arr (c : Dev nD) (w : Fin 7) : Buf (Elt F) (((cfg0 (adm V)).win w).arr.view.loc (c.tc : Thread nD τ)) :=
  V c (Proc.devRef .tc (Pipeline.arrRef (cfg0 (adm V)).spec w))

/-- The sixteen rows of window `w`'s array a point reads. -/
def blkIn (c : Dev nD) (w : Fin 7) (t : Fin grid0.N) :
    (((cfg0 (adm V)).win w).xblock (grid0.coords t)).Idx → Elt F ((cfg0 (adm V)).win w).elt :=
  (((cfg0 (adm V)).win w).blk t).view.read (Elt F) (arr V c w)

/-- The kernel's words of the tables at a point. -/
def wordX (i : grid0.Coords) : Fin k0_t1_loop.trips → BitVec 32 := fun k => word (F := F) i (Memref.whole main_v54) ((adm V).1 (0 : Fin 3)) k
def wordY (i : grid0.Coords) : Fin k0_t1_loop.trips → BitVec 32 := fun k => word (F := F) i (Memref.whole main_v57) ((adm V).1 (1 : Fin 3)) k
def wordM (i : grid0.Coords) : Fin k0_t1_loop.trips → BitVec 32 := fun k => word (F := F) i (Memref.whole main_v58) ((adm V).1 (2 : Fin 3)) k

/-- One point's change of the output block. -/
def pointV (c : Dev nD) (t : Fin grid0.N) (X : S1x33x208x512.Idx → Elt F .f32) : S1x33x208x512.Idx → Elt F .f32 :=
  bodyV (grid0.coords t) (wordX V (grid0.coords t)) (wordY V (grid0.coords t)) (wordM V (grid0.coords t))
    (blkIn V c 0 t) (blkIn V c 1 t) (blkIn V c 2 t) (blkIn V c 3 t) (blkIn V c 4 t) (blkIn V c 5 t) X

/-- The output block after point `n`. -/
def outV (c : Dev nD) : (n : ℕ) → n < grid0.N → S1x33x208x512.Idx → Elt F .f32
  | 0, h => pointV V c ⟨0, h⟩ (fun _ => Scalar.ofBits .f32 0x00000000#32)
  | n + 1, h => pointV V c ⟨n + 1, h⟩ (outV c n (Nat.lt_of_succ_lt h))

def dats (c : Dev nD) : Dat τ (Elt F) Unit ℕ (UR sig nD τ) ℕ (cfg0 (adm V)) c where
  A w := arr V c w
  after w t := match w with
    | ⟨0, _⟩ => blkIn V c 0 t
    | ⟨1, _⟩ => blkIn V c 1 t
    | ⟨2, _⟩ => blkIn V c 2 t
    | ⟨3, _⟩ => blkIn V c 3 t
    | ⟨4, _⟩ => blkIn V c 4 t
    | ⟨5, _⟩ => blkIn V c 5 t
    | ⟨6, _⟩ => outV V c t.val t.isLt
  Φ _ := iprop(Pipeline.ΦA (cfg0 (adm V)).spec c ∗ Pipeline.ΦT pre0 (adm V).1 c)
  q _ := fullShare
  owed _ := 0

/-- A reset point's change does not depend on what the block held. -/
theorem pointV_reset (c : Dev nD) (t : Fin grid0.N) (h : (grid0.coords t 1).val = 0) (X X' : S1x33x208x512.Idx → Elt F .f32) :
    pointV V c t X = pointV V c t X' := by
  unfold pointV bodyV startV
  rw [if_pos ((cond1_iff _).2 h), if_pos ((cond1_iff _).2 h)]

theorem before_0 (c : Dev nD) (t : Fin grid0.N) (d) : (dats V c).before (0 : Fin 7) t d = blkIn V c 0 t :=
  ((dats V c).before_in_eq_fetched 0 rfl (fun _ => rfl) (fun _ _ _ => rfl) (fun _ => rfl) t d).trans
    (by unfold Dat.fetched Dat.blockOf blkIn; rfl)
theorem before_1 (c : Dev nD) (t : Fin grid0.N) (d) : (dats V c).before (1 : Fin 7) t d = blkIn V c 1 t :=
  ((dats V c).before_in_eq_fetched 1 rfl (fun _ => rfl) (fun _ _ _ => rfl) (fun _ => rfl) t d).trans
    (by unfold Dat.fetched Dat.blockOf blkIn; rfl)
theorem before_2 (c : Dev nD) (t : Fin grid0.N) (d) : (dats V c).before (2 : Fin 7) t d = blkIn V c 2 t :=
  ((dats V c).before_in_eq_fetched 2 rfl (fun _ => rfl) (fun _ _ _ => rfl) (fun _ => rfl) t d).trans
    (by unfold Dat.fetched Dat.blockOf blkIn; rfl)
theorem before_3 (c : Dev nD) (t : Fin grid0.N) (d) : (dats V c).before (3 : Fin 7) t d = blkIn V c 3 t :=
  ((dats V c).before_in_eq_fetched 3 rfl (fun _ => rfl) (fun _ _ _ => rfl) (fun _ => rfl) t d).trans
    (by unfold Dat.fetched Dat.blockOf blkIn; rfl)
theorem before_4 (c : Dev nD) (t : Fin grid0.N) (d) : (dats V c).before (4 : Fin 7) t d = blkIn V c 4 t :=
  ((dats V c).before_in_eq_fetched 4 rfl (fun _ => rfl) (fun _ _ _ => rfl) (fun _ => rfl) t d).trans
    (by unfold Dat.fetched Dat.blockOf blkIn; rfl)
theorem before_5 (c : Dev nD) (t : Fin grid0.N) (d) : (dats V c).before (5 : Fin 7) t d = blkIn V c 5 t :=
  ((dats V c).before_in_eq_fetched 5 rfl (fun _ => rfl) (fun _ _ _ => rfl) (fun _ => rfl) t d).trans
    (by unfold Dat.fetched Dat.blockOf blkIn; rfl)

theorem outV_succ (c : Dev nD) (t : Fin grid0.N) (ht : t.val ≠ 0) (h : t.val - 1 < grid0.N) :
    outV V c t.val t.isLt = pointV V c t (outV V c (t.val - 1) h) := by
  obtain ⟨n, hn⟩ := t
  cases n with
  | zero => exact absurd rfl ht
  | succ n => rfl

/-- The output's block after a point is the point's change of what the body found there. -/
theorem before_out (c : Dev nD) (t : Fin grid0.N) (d) :
    pointV V c t ((dats V c).before (6 : Fin 7) t d) = outV V c t.val t.isLt := by
  have hlt : t.val - 1 < grid0.N := Nat.lt_of_le_of_lt (Nat.sub_le _ _) t.isLt
  by_cases ht : t.val = 0
  · obtain ⟨n, hn⟩ := t
    obtain rfl : n = 0 := ht
    exact pointV_reset V c _ (by rw [coords_1]; rfl) _ _
  rw [outV_succ V c t ht hlt]
  by_cases hm : t.val % 1024 = 0
  · exact pointV_reset V c t (by rw [coords_1, hm]) _ _
  · rw [(dats V c).before_out_kept (6 : Fin 7) rfl t ht ?_ (fun _ => rfl) (fun _ _ => rfl) d]
    · rfl
    · refine (flush_6 V ⟨t.val - 1, hlt⟩).trans (decide_eq_false ?_)
      show ¬ (t.val - 1) % 1024 = 1023
      omega

/-- Every word the loop reads at every point passes the kernel's bounds. -/
def AllOk : Prop := ∀ (t : Fin grid0.N) (k : Fin k0_t1_loop.trips),
  k0_chk1 (grid0.coords t) (wordX V (grid0.coords t) k) (wordY V (grid0.coords t) k) (wordM V (grid0.coords t) k)

/-- The tables, held one by one. -/
theorem tables_eq (c : Dev nD) (v : pre0.Contents (Elt F)) :
    (Pipeline.ΦT pre0 v c : sProp 𝕄)
      = iprop(heldT c (Memref.whole main_v54) (v (0 : Fin 3)) ∗ heldT c (Memref.whole main_v57) (v (1 : Fin 3))
          ∗ heldT c (Memref.whole main_v58) (v (2 : Fin 3))) :=
  bigSep_univ_eq_bigSepL [(0 : Fin 3), (1 : Fin 3), (2 : Fin 3)] (by decide) (by decide) _

theorem tables_at (v : Dev nD → Valuation τ sig (Elt F)) (c : Dev nD) (k : Fin 3) :
    v c (Proc.devRef .tc (pre0.ref k)) = (adm v).1 k := by
  rw [Subsingleton.elim c 0]; rfl

theorem body_obligation (hok : AllOk V) (c : Dev nD) : BodyObligationLoose (dats V c) (defs₀ (F := F)) 𝒱₀ () Set.univ := fun t => by
  rw [bigSep_W0, bigSep_W0]
  simp only
  rw [show (dats V c).Φ t.succ = (dats V c).Φ t.castSucc from rfl,
    show (dats V c).owesAt () t.succ = (dats V c).owesAt () t.castSucc from rfl,
    show (dats V c).Φ t.castSucc = iprop(Pipeline.ΦA (cfg0 (adm V)).spec c ∗ Pipeline.ΦT pre0 (adm V).1 c) from rfl, tables_eq]
  unfold Pipeline.ΦA
  rw [scopedRest0_eq]
  iintro ⟨⟨⟨Hs, Hp⟩, HT0, HT1, HT2⟩, Ho, ⟨%d0, H0⟩, ⟨%d1, H1⟩, ⟨%d2, H2⟩, ⟨%d3, H3⟩, ⟨%d4, H4⟩, ⟨%d5, H5⟩, ⟨%d6, H6⟩⟩
  rw [before_0 V c t d0, before_1 V c t d1, before_2 V c t d2, before_3 V c t d3, before_4 V c t d4, before_5 V c t d5]
  iapply (body_run (F := F) c (grid0.coords t) (Memref.whole main_v54) (Memref.isWhole_whole _) (Memref.whole main_v57) (Memref.isWhole_whole _)
    (Memref.whole main_v58) (Memref.isWhole_whole _)
    (stage0_0 ((cfg0 (adm V)).slots t 0)) (hstage0_0 _) (stage0_1 ((cfg0 (adm V)).slots t 1)) (hstage0_1 _)
    (stage0_2 ((cfg0 (adm V)).slots t 2)) (hstage0_2 _) (stage0_3 ((cfg0 (adm V)).slots t 3)) (hstage0_3 _)
    (stage0_4 ((cfg0 (adm V)).slots t 4)) (hstage0_4 _) (stage0_5 ((cfg0 (adm V)).slots t 5)) (hstage0_5 _)
    (stage0_6 ((cfg0 (adm V)).slots t 6)) (hstage0_6 _) (Memref.whole cc0_scratch0) (Memref.isWhole_whole _)
    ((adm V).1 (0 : Fin 3)) ((adm V).1 (1 : Fin 3)) ((adm V).1 (2 : Fin 3)) (hok t)
    (blkIn V c 0 t) (blkIn V c 1 t) (blkIn V c 2 t) (blkIn V c 3 t) (blkIn V c 4 t) (blkIn V c 5 t)
    ((dats V c).before (6 : Fin 7) t d6) _)
  isplitl [HT0 HT1 HT2 H0 H1 H2 H3 H4 H5 H6 Hs]
  · isplitl [HT0]; · iexact HT0
    isplitl [HT1]; · iexact HT1
    isplitl [HT2]; · iexact HT2
    isplitl [H0]; · iexact H0
    isplitl [H1]; · iexact H1
    isplitl [H2]; · iexact H2
    isplitl [H3]; · iexact H3
    isplitl [H4]; · iexact H4
    isplitl [H5]; · iexact H5
    isplitl [H6]; · iexact H6
    iexact Hs
  iintro ⟨HT0, HT1, HT2, H0, H1, H2, H3, H4, H5, H6, Hs⟩
  isplitl [HT0 HT1 HT2 Hs Hp]
  · isplitl [Hs Hp]
    · isplitl [Hs]; · iexact Hs
      iexact Hp
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  rw [show (dats V c).after (6 : Fin 7) t = outV V c t.val t.isLt from rfl, ← before_out V c t d6]
  iexact H6

/-! ## The launch -/

/-- The memory when the region starts. -/
def V₀ (m : (ℓ : Loc nD τ sig) → Buf (Elt F) ℓ) (c : Dev nD) : Valuation τ sig (Elt F) :=
  StableHlo.after [hostOps0, hostOps0_1, hostOps0_2, hostOps0_3, hostOps0_4, hostOps0_5].flatten (fun b => m (c, b))

end Cert.Vox

end
-- ==== Proof.Launched.lean ====
module

public import proofs.«01_k».proof.Proof.Point
public import Idealize.ShloMosaic.Lib.Pipeline.FrameSuffix

@[expose] public section

noncomputable section

namespace Cert.Vox

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- The references the lines after the region write, in order. -/
def tailW : List (Ref sig .tc) := [main_cst_11, main_v62, main_v63, main_v64, main_c_12, main_v65, main_v66, main_v67, main_v68, main_c_13, main_v69, main_v70, main_v71, main_v72, main_c_14, main_v73, main_v74, main_v75, main_v76, main_c_15, main_v77, main_v78, main_v79, main_v80, main_c_16, main_v81, main_v82, main_v83, main_v84, main_c_17, main_v85, main_v86, main_v87, main_v88, main_c_18, main_v89, main_v90, main_v91, main_v92, main_c_19, main_v93, main_v94, main_v95, main_v96, main_v97, main_v98, main_cst_20, main_v99, main_v100, main_v101, main_v102]

theorem tail_writes : (hostOps1 (F := F)).Forall fun op => op.writes ⊆ (tailW.map (Proc.devRef (τ := τ) .tc)).toFinset :=
  StableHlo.forall_writes_sub_of_map rfl

theorem tail_keep (op : HloOp τ sig (Elt F)) (h : op ∈ (hostOps1 (F := F))) (w : Fin 7) :
    Proc.devRef .tc (Pipeline.arrRef spec0 w) ∉ op.writes := by
  intro hb
  obtain ⟨y, hy, he⟩ := List.mem_map.mp (List.mem_toFinset.mp ((List.forall_iff_forall_mem.mp tail_writes) op h hb))
  have : ∀ w : Fin 7, Pipeline.arrRef spec0 w ∉ tailW := by decide
  exact this w (Proc.devRef_injective _ he ▸ hy)

theorem tail_tables : (hostOps1 (F := F)).Forall fun op => ∀ k : Fin 3, Proc.devRef .tc (pre0.ref k) ∉ op.bufs := by
  simp only [hostOps1, List.Forall]
  repeat' apply And.intro
  all_goals
    simp only [StableHlo.nullary_bufs, StableHlo.unary_bufs, StableHlo.binary_bufs, StableHlo.ternary_bufs, StableHlo.reshape_bufs,
      Finset.mem_insert, Finset.mem_singleton, (Proc.devRef_injective (τ := τ) Proc.tc).eq_iff]
    decide

variable (m : (ℓ : Loc nD τ sig) → Buf (Elt F) ℓ) (ρ : Dev nD → PrngReg)

abbrev pcs : Fin 1 → Pipeline.Cfg sig Λ₀ := Pipeline.pin pcfgs fun _ => adm (V₀ m)

/-- What a buffer holds when the program ends. -/
def endV (c : Dev nD) : Valuation τ sig (Elt F) :=
  StableHlo.after hostOps1 (Pipeline.withArrays spec0 c (V₀ m c) fun w => (dats (V₀ m) c).arrAt w grid0.N)

theorem tail_fresh : (hostOps1 (F := F)).Forall fun op => op.fresh = ∅ := by
  simp only [hostOps1, List.Forall]
  repeat' apply And.intro
  all_goals rfl

theorem head_fresh : [hostOps0 (F := F), hostOps0_1, hostOps0_2, hostOps0_3, hostOps0_4, hostOps0_5].Forall
    fun ops => ops.Forall fun op => op.fresh = ∅ := by
  simp only [hostOps0, hostOps0_1, hostOps0_2, hostOps0_3, hostOps0_4, hostOps0_5, List.Forall]
  repeat' apply And.intro
  all_goals rfl

theorem run_main (hok : AllOk (V₀ m)) :
    θ_run defs (onTc (τ := τ) (main (F := F))) ⟨m, fun _ => 0, ρ⟩
      (fun r => (Pipeline.FramePost (pcs m) (fun _ => dats (V₀ m)) 0
        (Pipeline.afterTail pcfgs (fun _ => adm (V₀ m)) (fun _ => dats (V₀ m)) 0 (V₀ m) [hostOps1])) r ∧ r.2.sem = fun _ => 0) := by
  exact Pipeline.θ_run_frameP_around_track (kit := launch0) (pcs := pcfgs) (a := fun _ => adm (V₀ m)) (dats := fun _ => dats (V₀ m)) (p := 0) (defs₀ := defs₀) (𝒱₀ := 𝒱₀) (m := m) (g := ρ) (main := main)
    (body_obligation (V₀ m) hok) (fun c => Dat.share_full _ fun _ => rfl) (fun _ _ => rfl) (V₀ m) [hostOps1]
    (fun ops ho op h => by
      obtain rfl := List.mem_singleton.mp ho
      exact Pipeline.sub_tailRefs pre0 spec0 op ((List.forall_iff_forall_mem.mp hostOps1_sub) op h) ((List.forall_iff_forall_mem.mp tail_tables) op h))
    (fun ops ho op h => by
      obtain rfl := List.mem_singleton.mp ho
      exact (List.forall_iff_forall_mem.mp tail_fresh) op h)
    (fun ops ho op h w => by
      obtain rfl := List.mem_singleton.mp ho
      exact tail_keep op h w)
    (Pipeline.hmainP_around pcfgs 0 defs₀ 𝒱₀ m main [hostOps0, hostOps0_1, hostOps0_2, hostOps0_3, hostOps0_4, hostOps0_5] [hostOps1]
      ⟨hostOps0_sub, hostOps0_1_sub, hostOps0_2_sub, hostOps0_3_sub, hostOps0_4_sub, hostOps0_5_sub⟩
      head_fresh (fun c => main_chain c))
    (fun _ _ => rfl) (fun c k => tables_at (V₀ m) c k) (fun _ => .rfl) (fun c => by
      show iprop(Pipeline.ΦA spec0 c ∗ Pipeline.ΦT pre0 (adm (V₀ m)).1 c) ⊢ Pipeline.ΦA spec0 c
      iintro ⟨H, -⟩
      iexact H)
    _ (fun _ h => h)

end Cert.Vox

end
-- ==== Proof.Host.lean ====
module

public import proofs.«01_k».proof.Proof.Launched
public import Idealize.ShloMosaic.Lib.StableHlo.Run

@[expose] public section

noncomputable section

/-! What the host's lines before the region leave in the buffers the kernel reads. -/

namespace Cert.Vox

open Cert.KernelIdeal Cert.KernelIdeal.Gen

open Idealize.ShloMosaic Idealize.ShloMosaic.TcCoe
open Idealize.ShloMosaic.StableHlo

variable {F : FTy → Type} [FloatOps F]

/-! ## The lines as functions of the arguments -/

/-- The scene's lower corner, the upper corner and the grid's extents, one row per Gaussian. -/
def loC : FVec F S3 .f32 := fun i => FloatOps.ofBits .f32 (lit0 (S3.rowMajor i))
def hiC : FVec F S3 .f32 := fun i => FloatOps.ofBits .f32 (lit1 (S3.rowMajor i))
def rows {α : Type} (x : S3.Idx → α) : S16384x3.Idx → α :=
  broadcastInDim S16384x3 ![0, 1] bcast_S1x3_S16384x3_0_1 (broadcastInDim S1x3 ![1] bcast_S3_S1x3_1 x)

def diag (p : Fin 3 → Nat) (h : S16384x3x3.Slices p S16384x1x1) (a2 : FVec F S16384x3x3 .f32) : FVec F S16384x1 .f32 :=
  broadcastInDim S16384x1 ![0] bcast_S16384_S16384x1_0
    (shapeCast S16384 (extractStridedSlice S16384x1x1 p a2 h) shapeCasts_S16384x1x1_S16384)

/-- Three standard deviations along each axis. -/
def reach (a2 : FVec F S16384x3x3 .f32) : FVec F S16384x3 .f32 :=
  mulf (broadcastInDim S16384x3 ![] bcast_S_S16384x3 (constant S_ .f32 0x40400000#32))
    (Host.sqrt (concatenate S16384x3 1
      [⟨S16384x1, diag ![0, 0, 0] slices_S16384x3x3_S16384x1x1_0_0_0 a2⟩, ⟨S16384x1, diag ![0, 1, 1] slices_S16384x3x3_S16384x1x1_0_1_1 a2⟩,
       ⟨S16384x1, diag ![0, 2, 2] slices_S16384x3x3_S16384x1x1_0_2_2 a2⟩] concatenates_S16384x1_S16384x1_S16384x1_S16384x3_d1))

def boxLo (a0 : FVec F S16384x3 .f32) (a2 : FVec F S16384x3x3 .f32) : FVec F S16384x3 .f32 := subf a0 (reach a2)
def boxHi (a0 : FVec F S16384x3 .f32) (a2 : FVec F S16384x3x3 .f32) : FVec F S16384x3 .f32 := addf a0 (reach a2)

/-- Which Gaussians are kept. -/
def kept (a0 : FVec F S16384x3 .f32) (a1 : FVec F S16384x1 .f32) (a2 : FVec F S16384x3x3 .f32) : IVec S16384 1 :=
  andi (andi (Host.reduce IntOp.andi (cmpf .ogt (boxHi a0 a2) (rows loC)) (constantI S_ 1 1#1) reducesTo_S16384x3_S16384_d1 h_S_)
      (Host.reduce IntOp.andi (cmpf .olt (boxLo a0 a2) (rows hiC)) (constantI S_ 1 1#1) reducesTo_S16384x3_S16384_d1 h_S_))
    (cmpf .ogt (shapeCast S16384 a1 shapeCasts_S16384x1_S16384)
      (broadcastInDim S16384 ![] bcast_S_S16384 (constant S_ .f32 0x38D1B717#32)))

def clipped (x : FVec F S16384x3 .f32) : FVec F S16384x3 .f32 := minimumf (rows hiC) (maximumf (rows loC) x)

/-- A coordinate's voxel number, towards zero. -/
def voxel (x : FVec F S16384x3 .f32) : IVec S16384x3 32 :=
  fptosi 32 (Host.divf (subf (clipped x) (rows loC)) (broadcastInDim S16384x3 ![] bcast_S_S16384x3 (constant S_ .f32 0x3F000000#32)))

def start (a0 : FVec F S16384x3 .f32) (a2 : FVec F S16384x3x3 .f32) : IVec S16384x3 32 :=
  maxsi (voxel (boxLo a0 a2)) (broadcastInDim S16384x3 ![] bcast_S_S16384x3 (constantI S_ 32 0#32))

def stop (a0 : FVec F S16384x3 .f32) (a2 : FVec F S16384x3x3 .f32) : IVec S16384x3 32 :=
  minsi (voxel (boxHi a0 a2))
    (rows (subi (fun i => lit2 (S3.rowMajor i)) (broadcastInDim S3 ![] bcast_S_S3 (constantI S_ 32 1#32))))

def col (k : Fin 2 → Nat) (h : S16384x3.Slices k S16384x1) (x : IVec S16384x3 32) : IVec S16384 32 :=
  shapeCast S16384 (extractStridedSlice S16384x1 k x h) shapeCasts_S16384x1_S16384

/-- A column divided by eight, rounded down. -/
def eighth (x : IVec S16384 32) : IVec S16384 32 :=
  let e : IVec S16384 32 := broadcastInDim S16384 ![] bcast_S_S16384 (constantI S_ 32 8#32)
  select (andi (cmpi .ne (signi x) (broadcastInDim S16384 ![] bcast_S_S16384 (signi (constantI S_ 32 8#32))))
      (cmpi .ne (Host.remsi x e) (broadcastInDim S16384 ![] bcast_S_S16384 (constantI S_ 32 0#32))))
    (subi (Host.divsi x e) (broadcastInDim S16384 ![] bcast_S_S16384 (constantI S_ 32 1#32))) (Host.divsi x e)

/-! ## What each stretch writes -/

def wr0 : List (Ref sig .tc) := [main_cst, main_cst_0, main_c, main_v0, main_v1, main_v2, main_v3, main_v4, main_v5, main_v6, main_v7, main_v8, main_v9, main_v10, main_cst_1, main_v11, main_v12, main_v13, main_cst_2, main_v14, main_v15, main_v16, main_v17, main_v18, main_v19, main_c_3, main_v20, main_v21, main_v22, main_v23, main_c_4, main_v24, main_v25, main_v26, main_cst_5, main_v27, main_v28, main_v29]
theorem wr0_ok : (hostOps0 (F := F)).Forall fun op => op.writes ⊆ (wr0.map (Proc.devRef (τ := τ) .tc)).toFinset :=
  forall_writes_sub_of_map rfl
def wr1 : List (Ref sig .tc) := [main_call0_v0, main_call0_v1, main_call0_v2, main_call0_v3, main_call0_v4, main_v30]
theorem wr1_ok : (hostOps0_1 (F := F)).Forall fun op => op.writes ⊆ (wr1.map (Proc.devRef (τ := τ) .tc)).toFinset :=
  forall_writes_sub_of_map rfl
def wr2 : List (Ref sig .tc) := [main_call1_v0, main_call1_v1, main_call1_v2, main_call1_v3, main_call1_v4, main_v31]
theorem wr2_ok : (hostOps0_2 (F := F)).Forall fun op => op.writes ⊆ (wr2.map (Proc.devRef (τ := τ) .tc)).toFinset :=
  forall_writes_sub_of_map rfl
def wr3 : List (Ref sig .tc) := [main_v32, main_v33, main_v34, main_cst_6, main_v35, main_v36, main_v37, main_c_7, main_v38, main_v39, main_v40, main_v41, main_v42, main_cst_8, main_v43, main_v44, main_v45, main_c_9, main_v46, main_v47, main_v48, main_v49, main_v50, main_v51, main_v52, main_v53, main_v54, main_v55, main_v56, main_c_10]
theorem wr3_ok : (hostOps0_3 (F := F)).Forall fun op => op.writes ⊆ (wr3.map (Proc.devRef (τ := τ) .tc)).toFinset :=
  forall_writes_sub_of_map rfl
def wr4 : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v57]
theorem wr4_ok : (hostOps0_4 (F := F)).Forall fun op => op.writes ⊆ (wr4.map (Proc.devRef (τ := τ) .tc)).toFinset :=
  forall_writes_sub_of_map rfl
def wr5 : List (Ref sig .tc) := [main_v58, main_v59, main_v60]
theorem wr5_ok : (hostOps0_5 (F := F)).Forall fun op => op.writes ⊆ (wr5.map (Proc.devRef (τ := τ) .tc)).toFinset :=
  forall_writes_sub_of_map rfl

/-! ## The stretches -/

section
variable (W : Valuation τ sig (Elt F))

theorem at_v13 : after hostOps0 W (Proc.devRef .tc main_v13) = boxLo (W (Proc.devRef .tc main_arg0)) (W (Proc.devRef .tc main_arg2)) := by
  after_results_simp
  rfl
theorem at_v16 : after hostOps0 W (Proc.devRef .tc main_v16) = boxHi (W (Proc.devRef .tc main_arg0)) (W (Proc.devRef .tc main_arg2)) := by
  after_results_simp
  rfl
theorem at_v29 : after hostOps0 W (Proc.devRef .tc main_v29)
    = kept (W (Proc.devRef .tc main_arg0)) (W (Proc.devRef .tc main_arg1)) (W (Proc.devRef .tc main_arg2)) := by
  after_results_simp
  rfl
theorem at_cst : after hostOps0 W (Proc.devRef .tc main_cst) = loC := by
  after_results_simp
  rfl
theorem at_cst_0 : after hostOps0 W (Proc.devRef .tc main_cst_0) = hiC := by
  after_results_simp
  rfl
theorem at_c : after hostOps0 W (Proc.devRef .tc main_c) = fun i => lit2 (S3.rowMajor i) := by
  after_results_simp
  rfl

theorem at_v30 : after hostOps0_1 W (Proc.devRef .tc main_v30)
    = minimumf (rows (W (Proc.devRef .tc main_cst_0))) (maximumf (rows (W (Proc.devRef .tc main_cst))) (W (Proc.devRef .tc main_v13))) := by
  after_results_simp
  rfl
theorem at_v31 : after hostOps0_2 W (Proc.devRef .tc main_v31)
    = minimumf (rows (W (Proc.devRef .tc main_cst_0))) (maximumf (rows (W (Proc.devRef .tc main_cst))) (W (Proc.devRef .tc main_v16))) := by
  after_results_simp
  rfl

def voxelOf (x : FVec F S16384x3 .f32) (l : FVec F S3 .f32) : IVec S16384x3 32 :=
  fptosi 32 (Host.divf (subf x (rows l)) (broadcastInDim S16384x3 ![] bcast_S_S16384x3 (constant S_ .f32 0x3F000000#32)))
def startOf (x : FVec F S16384x3 .f32) (l : FVec F S3 .f32) : IVec S16384x3 32 :=
  maxsi (voxelOf x l) (broadcastInDim S16384x3 ![] bcast_S_S16384x3 (constantI S_ 32 0#32))
def stopOf (x : FVec F S16384x3 .f32) (l : FVec F S3 .f32) (s : IVec S3 32) : IVec S16384x3 32 :=
  minsi (voxelOf x l) (rows (subi s (broadcastInDim S3 ![] bcast_S_S3 (constantI S_ 32 1#32))))

theorem at_v39 : after hostOps0_3 W (Proc.devRef .tc main_v39)
    = startOf (W (Proc.devRef .tc main_v30)) (W (Proc.devRef .tc main_cst)) := by
  after_results_simp
  rfl
theorem at_v52 : after hostOps0_3 W (Proc.devRef .tc main_v52)
    = sitofp .f32 (subi (stopOf (W (Proc.devRef .tc main_v31)) (W (Proc.devRef .tc main_cst)) (W (Proc.devRef .tc main_c)))
        (startOf (W (Proc.devRef .tc main_v30)) (W (Proc.devRef .tc main_cst)))) := by
  after_results_simp
  rfl
theorem at_v54 : after hostOps0_3 W (Proc.devRef .tc main_v54)
    = col ![0, 0] slices_S16384x3_S16384x1_0_0 (startOf (W (Proc.devRef .tc main_v30)) (W (Proc.devRef .tc main_cst))) := by
  after_results_simp
  rfl
theorem at_v56 : after hostOps0_3 W (Proc.devRef .tc main_v56)
    = col ![0, 1] slices_S16384x3_S16384x1_0_1 (startOf (W (Proc.devRef .tc main_v30)) (W (Proc.devRef .tc main_cst))) := by
  after_results_simp
  rfl
theorem at_c_10 : after hostOps0_3 W (Proc.devRef .tc main_c_10) = constantI S_ 32 8#32 := by
  after_results_simp
theorem at_v57 (h : W (Proc.devRef .tc main_c_10) = constantI S_ 32 8#32) :
    after hostOps0_4 W (Proc.devRef .tc main_v57) = eighth (W (Proc.devRef .tc main_v56)) := by
  after_results_simp
  rw [h]
  rfl
theorem at_v58 : after hostOps0_5 W (Proc.devRef .tc main_v58) = extui 32 (W (Proc.devRef .tc main_v29)) (by decide) := by
  after_results_simp
theorem at_v59 : after hostOps0_5 W (Proc.devRef .tc main_v59) = sitofp .f32 (W (Proc.devRef .tc main_v39)) := by
  after_results_simp
theorem at_v60 : after hostOps0_5 W (Proc.devRef .tc main_v60)
    = shapeCast S16384x9 (W (Proc.devRef .tc main_arg2)) shapeCasts_S16384x3x3_S16384x9 := by
  after_results_simp
  rfl

end

/-! ## All of the stretches in a row -/

section
variable (m : (ℓ : Loc nD τ sig) → Buf (Elt F) ℓ) (c : Dev nD)

def W1 : Valuation τ sig (Elt F) := after hostOps0 fun b => m (c, b)
def W2 : Valuation τ sig (Elt F) := after hostOps0_1 (W1 m c)
def W3 : Valuation τ sig (Elt F) := after hostOps0_2 (W2 m c)
def W4 : Valuation τ sig (Elt F) := after hostOps0_3 (W3 m c)
def W5 : Valuation τ sig (Elt F) := after hostOps0_4 (W4 m c)

theorem V₀_eq : V₀ m c = after hostOps0_5 (W5 m c) := by
  simp only [V₀, W5, W4, W3, W2, W1, List.flatten_cons, List.flatten_nil, List.append_nil, after_append]

theorem W1_keep {r : Ref sig .tc} (h : r ∉ wr0) : W1 m c (Proc.devRef .tc r) = m (c, Proc.devRef .tc r) :=
  after_of_writes_sub _ _ (wr0_ok (F := F)) h
theorem W2_keep {r : Ref sig .tc} (h : r ∉ wr1) : W2 m c (Proc.devRef .tc r) = W1 m c (Proc.devRef .tc r) :=
  after_of_writes_sub _ _ (wr1_ok (F := F)) h
theorem W3_keep {r : Ref sig .tc} (h : r ∉ wr2) : W3 m c (Proc.devRef .tc r) = W2 m c (Proc.devRef .tc r) :=
  after_of_writes_sub _ _ (wr2_ok (F := F)) h
theorem W4_keep {r : Ref sig .tc} (h : r ∉ wr3) : W4 m c (Proc.devRef .tc r) = W3 m c (Proc.devRef .tc r) :=
  after_of_writes_sub _ _ (wr3_ok (F := F)) h
theorem W5_keep {r : Ref sig .tc} (h : r ∉ wr4) : W5 m c (Proc.devRef .tc r) = W4 m c (Proc.devRef .tc r) :=
  after_of_writes_sub _ _ (wr4_ok (F := F)) h
theorem V₀_keep {r : Ref sig .tc} (h : r ∉ wr5) : V₀ m c (Proc.devRef .tc r) = W5 m c (Proc.devRef .tc r) := by
  rw [V₀_eq]; exact after_of_writes_sub _ _ (wr5_ok (F := F)) h

theorem V₀_keep_all {r : Ref sig .tc} (h : r ∉ wr0 ++ wr1 ++ wr2 ++ wr3 ++ wr4 ++ wr5) :
    V₀ m c (Proc.devRef .tc r) = m (c, Proc.devRef .tc r) := by
  simp only [List.mem_append, not_or] at h
  obtain ⟨⟨⟨⟨⟨h0, h1⟩, h2⟩, h3⟩, h4⟩, h5⟩ := h
  rw [V₀_keep m c h5, W5_keep m c h4, W4_keep m c h3, W3_keep m c h2, W2_keep m c h1, W1_keep m c h0]

/-- The four arguments as arrays. -/
abbrev A0 : FVec F S16384x3 .f32 := m (c, Proc.devRef .tc main_arg0)
abbrev A1 : FVec F S16384x1 .f32 := m (c, Proc.devRef .tc main_arg1)
abbrev A2 : FVec F S16384x3x3 .f32 := m (c, Proc.devRef .tc main_arg2)
abbrev A3 : FVec F S16384x16 .f32 := m (c, Proc.devRef .tc main_arg3)

theorem W3_v30 : W3 m c (Proc.devRef .tc main_v30) = clipped (boxLo (A0 m c) (A2 m c)) := by
  rw [W3_keep m c (by decide), W2, at_v30, W1, at_cst_0, at_cst, at_v13]; rfl
theorem W3_v31 : W3 m c (Proc.devRef .tc main_v31) = clipped (boxHi (A0 m c) (A2 m c)) := by
  rw [W3, at_v31, W2_keep m c (by decide), W2_keep m c (by decide), W2_keep m c (by decide), W1, at_cst_0, at_cst, at_v16]; rfl
theorem W3_cst : W3 m c (Proc.devRef .tc main_cst) = loC := by
  rw [W3_keep m c (by decide), W2_keep m c (by decide), W1, at_cst]
theorem W3_c : W3 m c (Proc.devRef .tc main_c) = fun i => lit2 (S3.rowMajor i) := by
  rw [W3_keep m c (by decide), W2_keep m c (by decide), W1, at_c]

theorem V₀_v54 : V₀ m c (Proc.devRef .tc main_v54) = col ![0, 0] slices_S16384x3_S16384x1_0_0 (start (A0 m c) (A2 m c)) := by
  rw [V₀_keep m c (by decide), W5_keep m c (by decide), W4, at_v54, W3_v30, W3_cst]; rfl
theorem V₀_v57 : V₀ m c (Proc.devRef .tc main_v57) = eighth (col ![0, 1] slices_S16384x3_S16384x1_0_1 (start (A0 m c) (A2 m c))) := by
  rw [V₀_keep m c (by decide), W5, at_v57 _ (by rw [W4]; exact at_c_10 _), W4, at_v56, W3_v30, W3_cst]; rfl
theorem V₀_v58 : V₀ m c (Proc.devRef .tc main_v58) = extui 32 (kept (A0 m c) (A1 m c) (A2 m c)) (by decide) := by
  rw [V₀_eq, at_v58, W5_keep m c (by decide), W4_keep m c (by decide), W3_keep m c (by decide), W2_keep m c (by decide), W1, at_v29]
theorem V₀_v59 : V₀ m c (Proc.devRef .tc main_v59) = sitofp .f32 (start (A0 m c) (A2 m c)) := by
  rw [V₀_eq, at_v59, W5_keep m c (by decide), W4, at_v39, W3_v30, W3_cst]; rfl
theorem V₀_v52 : V₀ m c (Proc.devRef .tc main_v52) = sitofp .f32 (subi (stop (A0 m c) (A2 m c)) (start (A0 m c) (A2 m c))) := by
  rw [V₀_keep m c (by decide), W5_keep m c (by decide), W4, at_v52, W3_v30, W3_v31, W3_cst, W3_c]; rfl
theorem V₀_v60 : V₀ m c (Proc.devRef .tc main_v60) = shapeCast S16384x9 (A2 m c) shapeCasts_S16384x3x3_S16384x9 := by
  rw [V₀_eq, at_v60, W5_keep m c (by decide), W4_keep m c (by decide), W3_keep m c (by decide), W2_keep m c (by decide), W1_keep m c (by decide)]
theorem V₀_arg0 : V₀ m c (Proc.devRef .tc main_arg0) = A0 m c := V₀_keep_all m c (by decide)
theorem V₀_arg1 : V₀ m c (Proc.devRef .tc main_arg1) = A1 m c := V₀_keep_all m c (by decide)
theorem V₀_arg2 : V₀ m c (Proc.devRef .tc main_arg2) = A2 m c := V₀_keep_all m c (by decide)
theorem V₀_arg3 : V₀ m c (Proc.devRef .tc main_arg3) = A3 m c := V₀_keep_all m c (by decide)

end

end Cert.Vox

end
-- ==== Proof.Words.lean ====
module

public import proofs.«01_k».proof.Proof.Host
public import Idealize.ShloMosaic.Lib.Pointwise
public import Idealize.ShloMosaic.Lib.ReduceAll
public import Idealize.ShloMosaic.Lib.WordArith
public import Idealize.ShloMosaic.Lib.Tactic.WordOmega

@[expose] public section

noncomputable section

/-! The words the kernel reads, and when the windows they name stay inside the block. -/

namespace Cert.Vox

open Idealize.ShloMosaic.WordArith
open Cert.KernelIdeal Cert.KernelIdeal.Gen

open Idealize.ShloMosaic Idealize.ShloMosaic.TcCoe

variable {F : FTy → Type} [FloatOps F]

/-- The Gaussian a trip handles. -/
def gid (i : grid0.Coords) (k : Fin k0_t1_loop.trips) : Fin 16384 :=
  ⟨16 * (i 1).val + k.val, by
    have h : (i 1).val < 1024 := (i 1).isLt
    have hk : k.val < 16 := k.isLt
    omega⟩

theorem iv_val (k : Fin k0_t1_loop.trips) : Scf.iv (0#32) (1#32) k = BitVec.ofNat 32 k.val := by
  simp [Scf.iv]

theorem off1_eq (i : grid0.Coords) (k : Fin k0_t1_loop.trips) : k0_off1 i k = ![(gid i k).val] := by
  have h : (i 1).val < 1024 := (i 1).isLt
  have hk : k.val < 16 := k.isLt
  unfold k0_off1 gid
  simp only [Scalar.muli, Scalar.addi, Scalar.indexCast, IntOp.muli, IntOp.addi, iv_val]
  congr 1
  rw [BitVec.toNat_add, BitVec.toNat_mul, BitVec.toNat_ofNat, BitVec.toNat_ofNat]
  simp
  omega

theorem word_eq {sp : Space} (arg : Memref sig .tc sp S16384 .i32) (i : grid0.Coords) (T : BufTy.Contents (Elt F) arg.view.ty) (k : Fin k0_t1_loop.trips) :
    word (F := F) i arg T k = arg.view.read (Elt F) T (ix1 (gid i k)) := by
  unfold word View.readAt
  congr 1
  funext a
  obtain rfl : a = (0 : Fin 1) := Subsingleton.elim (α := Fin 1) _ _
  apply Fin.ext
  have h := congrFun (off1_eq i k) 0
  show k0_off1 i k 0 + _ = _
  rw [h]
  rfl

theorem start_lt (a0 : FVec F S16384x3 .f32) (a2 : FVec F S16384x3x3 .f32) (j : S16384x3.Idx) : (start a0 a2 j).toNat < 2 ^ 31 := by
  have : start a0 a2 j = IntOp.maxsi (voxel (boxLo a0 a2) j) 0#32 := rfl
  rw [this]
  unfold IntOp.maxsi
  split
  · rename_i h
    simp only [BitVec.slt, BitVec.toInt_eq_toNat_cond] at h
    simp at h
    omega
  · simp

/-- Division by eight of a word that is not negative. -/
theorem eighth_toNat (x : IVec S16384 32) (n : S16384.Idx) (h : (x n).toNat < 2 ^ 31) : (eighth x n).toNat = (x n).toNat / 8 := by
  have hm : (x n).msb = false := by rw [BitVec.msb_eq_false_iff_two_mul_lt]; omega
  have hd : ∀ u, (IntOp.divsi u (x n) 8#32).toNat = (x n).toNat / 8 := by
    intro u
    unfold IntOp.divsi
    rw [if_neg (by unfold IntOp.SDivCorner; rintro (h | ⟨-, h⟩) <;> exact absurd h (by decide))]
    rw [BitVec.sdiv_eq, hm, show (8#32).msb = false from by decide]
    show (BitVec.udiv (x n) 8#32).toNat = _
    rw [BitVec.udiv_eq, BitVec.toNat_udiv]; rfl
  have hc : IntOp.andi (IntOp.cmpi .ne (if x n = 0 then 0 else if (x n).msb then -1 else 1) (1#32))
      (IntOp.cmpi .ne (IntOp.remsi .host (x n) 8#32) 0#32) ≠ 1#1 := by
    rw [hm]
    by_cases hz : x n = 0
    · rw [hz]; decide
    · rw [if_neg hz]
      have : IntOp.cmpi .ne (if false = true then (-1 : BitVec 32) else 1) (1#32) = 0#1 := by decide
      rw [this]
      generalize IntOp.cmpi .ne (IntOp.remsi .host (x n) 8#32) 0#32 = z
      revert z; decide
  have : eighth x n = if IntOp.andi (IntOp.cmpi .ne (if x n = 0 then 0 else if (x n).msb then -1 else 1) (1#32))
      (IntOp.cmpi .ne (IntOp.remsi .host (x n) 8#32) 0#32) = 1#1 then IntOp.subi (IntOp.divsi .host (x n) 8#32) 1#32
      else IntOp.divsi .host (x n) 8#32 := by
    have hsg : signi (constantI S_ 32 8#32) = fun _ => 1#32 := by
      funext i
      show (if (8#32 : BitVec 32) = 0 then (0 : BitVec 32) else if (8#32 : BitVec 32).msb then -1 else 1) = 1#32
      decide
    unfold eighth
    rw [hsg]
    rfl
  rw [this, if_neg hc, hd]

theorem col0 (a0 : FVec F S16384x3 .f32) (a2 : FVec F S16384x3x3 .f32) (n : Fin 16384) :
    col ![0, 0] slices_S16384x3_S16384x1_0_0 (start a0 a2) (ix1 n) = start a0 a2 (ix2 n 0) := by
  unfold col
  pointwise
theorem col1 (a0 : FVec F S16384x3 .f32) (a2 : FVec F S16384x3x3 .f32) (n : Fin 16384) :
    col ![0, 1] slices_S16384x3_S16384x1_0_1 (start a0 a2) (ix1 n) = start a0 a2 (ix2 n 1) := by
  unfold col
  pointwise

section
variable (m : (ℓ : Loc nD τ sig) → Buf (Elt F) ℓ)

theorem wordX_eq (i : grid0.Coords) (k : Fin k0_t1_loop.trips) :
    wordX (V₀ m) i k = start (A0 m 0) (A2 m 0) (ix2 (gid i k) 0) := by
  refine (word_eq _ i _ k).trans ?_
  rw [← col0, ← V₀_v54]
  rfl
theorem wordY_eq (i : grid0.Coords) (k : Fin k0_t1_loop.trips) :
    (wordY (V₀ m) i k).toNat = (start (A0 m 0) (A2 m 0) (ix2 (gid i k) 1)).toNat / 8 := by
  refine (congrArg BitVec.toNat (word_eq _ i _ k)).trans ?_
  rw [← col1, ← eighth_toNat _ _ (by rw [col1]; exact start_lt _ _ _), ← V₀_v57]
  rfl
theorem wordM_eq (i : grid0.Coords) (k : Fin k0_t1_loop.trips) :
    wordM (V₀ m) i k = (kept (A0 m 0) (A1 m 0) (A2 m 0) (ix1 (gid i k))).setWidth 32 := by
  refine (word_eq _ i _ k).trans ?_
  exact congrFun (V₀_v58 m 0) (ix1 (gid i k))

end

/-- The body's test: kept, and starting among the tile's planes. -/
theorem cond2_iff (i : grid0.Coords) (x w : BitVec 32) (hx : x.toNat < 2 ^ 31) :
    k0_cond2 i x w = 1#1 ↔ w = 1#32 ∧ 25 * (i 0).val ≤ x.toNat ∧ (x.toNat < 25 * ((i 0).val + 1) ∨ (i 0).val = 7) := by
  have h0 : (i 0).val < 8 := (i 0).isLt
  unfold k0_cond2
  generalize (i 0).val = t at *
  simp only [Scalar.cmpi, Scalar.muli, Scalar.addi, Scalar.andi, Scalar.ori, Scalar.extui]
  have hxi : x.toInt = x.toNat := by rw [BitVec.toInt_eq_toNat_of_lt]; omega
  have e1 : IntOp.cmpi .sge x (IntOp.muli (BitVec.ofNat 32 t) 25#32) = BitVec.ofBool (decide (25 * t ≤ x.toNat)) := by
    have : (IntOp.muli (BitVec.ofNat 32 t) 25#32).toInt = 25 * t := by interval_cases t <;> rfl
    simp only [IntOp.cmpi, BitVec.sle_eq_decide, hxi, this]
    congr 1; simp only [decide_eq_decide]; omega
  have e2 : IntOp.cmpi .slt x (IntOp.muli (IntOp.addi (BitVec.ofNat 32 t) 1#32) 25#32) = BitVec.ofBool (decide (x.toNat < 25 * (t + 1))) := by
    have : (IntOp.muli (IntOp.addi (BitVec.ofNat 32 t) 1#32) 25#32).toInt = 25 * (t + 1) := by interval_cases t <;> rfl
    simp only [IntOp.cmpi, BitVec.slt_eq_decide, hxi, this]
    congr 1; simp only [decide_eq_decide]; omega
  have e3 : IntOp.cmpi .eq (BitVec.ofNat 32 t) 7#32 = BitVec.ofBool (decide (t = 7)) := by interval_cases t <;> rfl
  have e4 : IntOp.cmpi .eq w 1#32 = BitVec.ofBool (decide (w = 1#32)) := rfl
  have e5 : ∀ b : Bool, IntOp.cmpi .ne (BitVec.setWidth 32 (BitVec.ofBool b)) 0#32 = BitVec.ofBool b := by decide
  rw [e1, e2, e3, e4, ori_ofBool, andi_ofBool, andi_ofBool, e5, ofBool_eq_one_iff]
  simp only [Bool.and_eq_true, Bool.or_eq_true, decide_eq_true_eq]

theorem off2_eq (i : grid0.Coords) (x y : BitVec 32) (hx : x.toNat < 2 ^ 31) (h : 25 * (i 0).val ≤ x.toNat) (hy : y.toNat ≤ 24) :
    k0_off2 i x y = ![0, x.toNat - 25 * (i 0).val, 8 * y.toNat, 0] := by
  have h0 : (i 0).val < 8 := (i 0).isLt
  unfold k0_off2
  generalize (i 0).val = t at *
  simp only [Scalar.muli, Scalar.subi, Scalar.indexCast, IntOp.muli, IntOp.subi]
  rw [BitVec.toNat_sub, BitVec.toNat_mul, BitVec.toNat_mul, BitVec.toNat_ofNat]
  congr 1
  · simp; omega

theorem chk_of (i : grid0.Coords) (x y w : BitVec 32) (h : w = 1#32 → x.toNat < 200 ∧ y.toNat ≤ 24) (hx : x.toNat < 2 ^ 31) : k0_chk1 i x y w := by
  intro h2
  obtain ⟨hw, h25, h'⟩ := (cond2_iff i x w hx).1 h2
  obtain ⟨hx', hy⟩ := h hw
  have h0 : (i 0).val < 8 := (i 0).isLt
  rw [off2_eq i x y hx h25 hy]
  intro a
  fin_cases a
  · show 0 + 1 ≤ 1; omega
  · show x.toNat - 25 * (i 0).val + 8 ≤ 33; omega
  · show 8 * y.toNat + 16 ≤ 208; omega
  · show 0 + 512 ≤ 512; omega

/-- Every kept Gaussian starts inside the grid, in its first two coordinates. -/
def InGrid (a0 : FVec F S16384x3 .f32) (a1 : FVec F S16384x1 .f32) (a2 : FVec F S16384x3x3 .f32) : Prop :=
  ∀ n : Fin 16384, kept a0 a1 a2 (ix1 n) = 1#1 → (start a0 a2 (ix2 n 0)).toNat < 200 ∧ (start a0 a2 (ix2 n 1)).toNat < 200

theorem allOk_of (m : (ℓ : Loc nD τ sig) → Buf (Elt F) ℓ) (h : InGrid (A0 m 0) (A1 m 0) (A2 m 0)) : AllOk (V₀ m) := by
  intro t k
  refine chk_of _ _ _ _ (fun hw => ?_) (by rw [wordX_eq]; exact start_lt _ _ _)
  rw [wordM_eq] at hw
  have hk : kept (A0 m 0) (A1 m 0) (A2 m 0) (ix1 (gid (grid0.coords t) k)) = 1#1 := by
    rcases BitVec.eq_zero_or_eq_one (kept (A0 m 0) (A1 m 0) (A2 m 0) (ix1 (gid (grid0.coords t) k))) with e | e
    · rw [e] at hw; exact absurd hw (by decide)
    · exact e
  obtain ⟨h0, h1⟩ := h _ hk
  rw [wordX_eq, wordY_eq]
  exact ⟨h0, by omega⟩

end Cert.Vox

end
-- ==== Proof.Same.lean ====
module

public import proofs.«01_k».proof.Proof.Gen.KernelIdeal
public import proofs.«01_k».proof.Proof.Gen.Kernel

@[expose] public section

set_option backward.isDefEq.respectTransparency.types false
set_option backward.isDefEq.respectTransparency false
set_option maxHeartbeats 1000000

noncomputable section

/-! The two readings of the kernel's program are one text: their definitions agree. -/

namespace Cert.Vox

open Idealize.ShloMosaic

variable {F : FTy → Type} [FloatOps F]

theorem body_same : (@Cert.Kernel.cc0__vox_kernel F _ _) = @Cert.KernelIdeal.cc0__vox_kernel F _ _ := by
  unfold Cert.Kernel.cc0__vox_kernel Cert.KernelIdeal.cc0__vox_kernel
  rfl

theorem defs₀_same : (Cert.Kernel.defs₀ (F := F)) = Cert.KernelIdeal.defs₀ := by
  unfold Cert.Kernel.defs₀ Cert.KernelIdeal.defs₀
  refine congrArg Defs.onTc ?_
  funext l x
  match l with
  | 0 =>
    obtain ⟨t, s⟩ := x
    dsimp only
    rw [body_same]
    rfl
  | ⟨_ + 1, h⟩ => exact absurd h (Nat.not_lt.2 (Nat.le_add_left _ _))

theorem pcfg_same : (Cert.Kernel.pcfg0 (F := F)) = Cert.KernelIdeal.pcfg0 := rfl

theorem defs_same : (Cert.Kernel.defs (F := F)) = Cert.KernelIdeal.defs := by
  unfold Cert.Kernel.defs Cert.KernelIdeal.defs
  rw [defs₀_same]
  rfl

theorem part0_same : (Cert.Kernel.main_part0 (F := F)) = Cert.KernelIdeal.main_part0 := by
  unfold Cert.Kernel.main_part0 Cert.KernelIdeal.main_part0
  rfl

theorem part1_same : (Cert.Kernel.main_part1 (F := F)) = Cert.KernelIdeal.main_part1 := by
  unfold Cert.Kernel.main_part1 Cert.KernelIdeal.main_part1
  rfl

theorem part2_same : (Cert.Kernel.main_part2 (F := F)) = Cert.KernelIdeal.main_part2 := by
  unfold Cert.Kernel.main_part2 Cert.KernelIdeal.main_part2
  rfl

theorem main_same : (Cert.Kernel.main (F := F)) = Cert.KernelIdeal.main := by
  unfold Cert.Kernel.main Cert.KernelIdeal.main
  rw [part0_same, part1_same, part2_same]

end Cert.Vox

end
-- ==== Proof.Frame.lean ====
module

public import proofs.«01_k».proof.Proof.Words
public import proofs.«01_k».proof.Proof.Same
public import proofs.«01_k».proof.Proof.Gen.Pre_kept_start_in_grid
public import Idealize.ShloMosaic.Lib.Pipeline.ValueKit
public import Idealize.ShloMosaic.Lib.IdealHost

@[expose] public section

noncomputable section

/-! The arguments after a run, on words and on extended reals. -/

namespace Cert.Vox

open Cert.KernelIdeal Cert.KernelIdeal.Gen

open Idealize.ShloMosaic Idealize.ShloMosaic.TcCoe Idealize.SL.Sem

variable {F : FTy → Type} [FloatOps F]

section
variable (m : (ℓ : Loc nD τ sig) → Buf (Elt F) ℓ) (ρ : Dev nD → PrngReg)

/-- What both results' buffers and the arguments hold after a run. -/
theorem run_post (hok : AllOk (V₀ m)) :
    θ_run defs (onTc (τ := τ) (main (F := F))) ⟨m, fun _ => 0, ρ⟩
      (fun r => (∀ c : Dev nD, r.2.mem ((c.tc : Thread nD τ).loc main_v96) = endV m c (Proc.devRef .tc main_v96)
          ∧ r.2.mem ((c.tc : Thread nD τ).loc main_v102) = endV m c (Proc.devRef .tc main_v102)
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3))
        ∧ r.2.sem = fun _ => 0) := by
  refine θ_run_mono (run_main m ρ hok) fun r h => ⟨fun c => ⟨?_, ?_, ?_, ?_, ?_, ?_⟩, h.2⟩
  · exact Pipeline.FramePost.rest_eq h.1 c main_v96 (show main_v96 ∈ Pipeline.restRefs sig spec0 by decide)
  · exact Pipeline.FramePost.rest_eq h.1 c main_v102 (show main_v102 ∈ Pipeline.restRefs sig spec0 by decide)
  · exact (Pipeline.FramePost.in_eq h.1 c (0 : Fin 7) rfl).trans (V₀_arg0 m c)
  · exact (Pipeline.FramePost.in_eq h.1 c (1 : Fin 7) rfl).trans (V₀_arg1 m c)
  · refine (Pipeline.FramePost.rest_eq h.1 c main_arg2 (show main_arg2 ∈ Pipeline.restRefs sig spec0 by decide)).trans ?_
    show StableHlo.after ([hostOps1] : List (List (HloOp τ sig (Elt F)))).flatten _ (Proc.devRef .tc main_arg2) = _
    rw [show ([hostOps1] : List (List (HloOp τ sig (Elt F)))).flatten = hostOps1 from by simp,
      StableHlo.after_of_writes_sub _ _ (tail_writes (F := F)) (show main_arg2 ∉ tailW by decide)]
    refine (Pipeline.withArrays_of_ne _ _ _ _ _ (show ∀ w : Fin 7, Pipeline.arrRef spec0 w ≠ main_arg2 by decide)).trans ?_
    exact V₀_arg2 m c
  · exact (Pipeline.FramePost.in_eq h.1 c (3 : Fin 7) rfl).trans (V₀_arg3 m c)

end

/-- On words: the precondition says the kept Gaussians start inside the grid. -/
theorem inGrid_of_pre (a0 : FVec F S16384x3 .f32) (a1 : FVec F S16384x1 .f32) (a2 : FVec F S16384x3x3 .f32) (a3 : FVec F S16384x16 .f32)
    (h : Cert.Pre_kept_start_in_grid.fn (F := F) a0 a1 a2 a3 = fun _ => 1#1) : InGrid a0 a1 a2 := by
  intro n hk
  have hn := congrFun h (ix1 n)
  have e : Cert.Pre_kept_start_in_grid.fn (F := F) a0 a1 a2 a3 (ix1 n)
      = IntOp.ori (~~~ (kept a0 a1 a2 (ix1 n))) (IntOp.andi (IntOp.cmpi .slt (col ![0, 0] slices_S16384x3_S16384x1_0_0 (start a0 a2) (ix1 n)) 200#32)
          (IntOp.cmpi .slt (col ![0, 1] slices_S16384x3_S16384x1_0_1 (start a0 a2) (ix1 n)) 200#32)) := rfl
  rw [e, hk, col0, col1] at hn
  have hs : ∀ x : BitVec 32, x.toNat < 2 ^ 31 → IntOp.cmpi .slt x 200#32 = BitVec.ofBool (decide (x.toNat < 200)) := by
    intro x hx
    have hxi : x.toInt = x.toNat := by rw [BitVec.toInt_eq_toNat_of_lt]; omega
    simp only [IntOp.cmpi, BitVec.slt_eq_decide, hxi, show (200#32).toInt = 200 from rfl]
    congr 1; simp only [decide_eq_decide]; omega
  rw [hs _ (start_lt _ _ _), hs _ (start_lt _ _ _), WordArith.andi_ofBool] at hn
  have h1 : ∀ b : Bool, IntOp.ori (~~~ (1#1)) (BitVec.ofBool b) = BitVec.ofBool b := by decide
  rw [h1, WordArith.ofBool_eq_one_iff] at hn
  simpa using hn

end Cert.Vox

end
-- ==== Proof.Cells.lean ====
module

public import proofs.«01_k».proof.Proof.Words
public import Idealize.ShloMosaic.Lib.IdealHost

@[expose] public section

noncomputable section

/-! Voxel numbers on extended reals. -/

namespace Cert.Vox

open Cert.KernelIdeal Cert.KernelIdeal.Gen

open Idealize.ShloMosaic Idealize.ShloMosaic.TcCoe

/-! ## On extended reals -/

/-- The corners of the scene. -/
def loR (a : Fin 3) : ℝ := ![-50, -50, -5] a
def hiR (a : Fin 3) : ℝ := ![50, 50, 3] a

theorem loC_eq (a : Fin 3) : loC (F := Ideal) (ix1 a) = ((loR a : ℝ) : EReal) := by
  have e : S3.rowMajor (ix1 a) = a := Fin.ext (rowMajor_val1 (ix1 a))
  show Ideal.ofBits .f32 (lit0 (S3.rowMajor (ix1 a))) = _
  rw [e]
  fin_cases a
  · show Ideal.ofBits .f32 0xC2480000#32 = ((-50 : ℝ) : EReal)
    simp [Ideal.ofBits, Ideal.ieee, -EReal.coe_mul, -EReal.coe_neg]
    try norm_num
  · show Ideal.ofBits .f32 0xC2480000#32 = ((-50 : ℝ) : EReal)
    simp [Ideal.ofBits, Ideal.ieee, -EReal.coe_mul, -EReal.coe_neg]
    try norm_num
  · show Ideal.ofBits .f32 0xC0A00000#32 = ((-5 : ℝ) : EReal)
    simp [Ideal.ofBits, Ideal.ieee, -EReal.coe_mul, -EReal.coe_neg]
    try norm_num
theorem hiC_eq (a : Fin 3) : hiC (F := Ideal) (ix1 a) = ((hiR a : ℝ) : EReal) := by
  have e : S3.rowMajor (ix1 a) = a := Fin.ext (rowMajor_val1 (ix1 a))
  show Ideal.ofBits .f32 (lit1 (S3.rowMajor (ix1 a))) = _
  rw [e]
  fin_cases a
  · show Ideal.ofBits .f32 0x42480000#32 = ((50 : ℝ) : EReal)
    simp [Ideal.ofBits, Ideal.ieee, -EReal.coe_mul, -EReal.coe_neg]
    try norm_num
  · show Ideal.ofBits .f32 0x42480000#32 = ((50 : ℝ) : EReal)
    simp [Ideal.ofBits, Ideal.ieee, -EReal.coe_mul, -EReal.coe_neg]
    try norm_num
  · show Ideal.ofBits .f32 0x40400000#32 = ((3 : ℝ) : EReal)
    simp [Ideal.ofBits, Ideal.ieee, -EReal.coe_mul, -EReal.coe_neg]
    try norm_num

theorem rows_apply {α : Type} (x : S3.Idx → α) (n : Fin 16384) (a : Fin 3) : rows x (ix2 n a) = x (ix1 a) := by
  unfold rows
  pointwise

theorem half_bits : Ideal.ofBits .f32 0x3F000000#32 = ((1 / 2 : ℝ) : EReal) := by
  simp [Ideal.ofBits, Ideal.ieee, -EReal.coe_mul]
  norm_num

/-- A coordinate held between the corners. -/
def clampR (a : Fin 3) (x : EReal) : ℝ := (min (hiR a : EReal) (max (loR a : EReal) x)).toReal

theorem clampR_coe (a : Fin 3) (x : EReal) : ((clampR a x : ℝ) : EReal) = min (hiR a : EReal) (max (loR a : EReal) x) := by
  unfold clampR
  rw [EReal.coe_toReal]
  · exact ne_of_lt (lt_of_le_of_lt (min_le_left _ _) (EReal.coe_lt_top _))
  · refine ne_of_gt (lt_min (EReal.bot_lt_coe _) (lt_of_lt_of_le (EReal.bot_lt_coe _) (le_max_left _ _)))

theorem lo_lt_hi (a : Fin 3) : loR a < hiR a := by fin_cases a <;> simp [loR, hiR] <;> norm_num

theorem lo_le_clampR (a : Fin 3) (x : EReal) : loR a ≤ clampR a x := by
  rw [← EReal.coe_le_coe_iff, clampR_coe]
  exact le_min (EReal.coe_le_coe_iff.2 (lo_lt_hi a).le) (le_max_left _ _)
theorem clampR_le_hi (a : Fin 3) (x : EReal) : clampR a x ≤ hiR a := by
  rw [← EReal.coe_le_coe_iff, clampR_coe]
  exact min_le_left _ _
theorem clampR_lt_hi (a : Fin 3) (x : EReal) (h : x < (hiR a : EReal)) : clampR a x < hiR a := by
  rw [← EReal.coe_lt_coe_iff, clampR_coe]
  exact lt_of_le_of_lt (min_le_right _ _) (max_lt (EReal.coe_lt_coe_iff.2 (lo_lt_hi a)) h)

/-- A coordinate's voxel number. -/
def cellN (a : Fin 3) (x : EReal) : ℕ := ⌊(clampR a x - loR a) * 2⌋₊

theorem cellN_le (a : Fin 3) (x : EReal) : cellN a x ≤ 200 := by
  unfold cellN
  refine Nat.floor_le_of_le ?_
  have h := clampR_le_hi a x
  fin_cases a <;> simp [loR, hiR] at h ⊢ <;> linarith

theorem cellN_lt (a : Fin 3) (x : EReal) (h : x < (hiR a : EReal)) : cellN a x < (![200, 200, 16] a : ℕ) := by
  unfold cellN
  have h := clampR_lt_hi a x h
  have h0 := lo_le_clampR a x
  fin_cases a <;> simp [loR, hiR] at h h0 ⊢ <;> (rw [Nat.floor_lt (by linarith)]; push_cast; linarith)

theorem toIntClamped_nat (lo hi : ℤ) (r : ℝ) (h0 : 0 ≤ r) (hl : lo ≤ (⌊r⌋₊ : ℤ)) (hh : (⌊r⌋₊ : ℤ) ≤ hi) :
    Ideal.toIntClamped lo hi ((r : ℝ) : EReal) = (⌊r⌋₊ : ℤ) := by
  show max lo (min hi (if 0 ≤ r then ⌊r⌋ else ⌈r⌉)) = _
  rw [if_pos h0, ← Int.natCast_floor_eq_floor h0, min_eq_right hh, max_eq_right hl]

theorem div_half (r : ℝ) : Ideal.div ((r : ℝ) : EReal) ((1 / 2 : ℝ) : EReal) = ((r * 2 : ℝ) : EReal) := by
  unfold Ideal.div
  rw [if_neg (by exact_mod_cast (by norm_num : (1 / 2 : ℝ) ≠ 0)), ← EReal.coe_inv, ← EReal.coe_mul]
  norm_num

theorem voxel_eq (x : FVec Ideal S16384x3 .f32) (n : Fin 16384) (a : Fin 3) :
    voxel x (ix2 n a) = BitVec.ofNat 32 (cellN a (x (ix2 n a))) := by
  have h1 : voxel x (ix2 n a) = Ideal.fptosi 32 (Ideal.div (min (rows (hiC (F := Ideal)) (ix2 n a)) (max (rows (loC (F := Ideal)) (ix2 n a)) (x (ix2 n a))) - rows (loC (F := Ideal)) (ix2 n a))
      (Ideal.ofBits .f32 0x3F000000#32)) := rfl
  rw [h1, rows_apply, rows_apply, loC_eq, hiC_eq, ← clampR_coe, half_bits, ← EReal.coe_sub, div_half]
  unfold Ideal.fptosi
  have hle := cellN_le a (x (ix2 n a))
  have h0 : 0 ≤ (clampR a (x (ix2 n a)) - loR a) * 2 := mul_nonneg (sub_nonneg.2 (lo_le_clampR _ _)) (by norm_num)
  rw [toIntClamped_nat _ _ _ h0]
  · exact BitVec.ofInt_natCast _ _
  · exact le_trans (by norm_num) (Int.natCast_nonneg _)
  · exact le_trans (Int.ofNat_le.2 hle) (by norm_num)

theorem start_eq (a0 : FVec Ideal S16384x3 .f32) (a2 : FVec Ideal S16384x3x3 .f32) (n : Fin 16384) (a : Fin 3) :
    start a0 a2 (ix2 n a) = BitVec.ofNat 32 (cellN a (boxLo a0 a2 (ix2 n a))) := by
  have h1 : start a0 a2 (ix2 n a) = IntOp.maxsi (voxel (boxLo a0 a2) (ix2 n a)) 0#32 := rfl
  rw [h1, voxel_eq]
  have hle := cellN_le a (boxLo a0 a2 (ix2 n a))
  generalize cellN a (boxLo a0 a2 (ix2 n a)) = k at *
  have hk : (BitVec.ofNat 32 k).toInt = k := WordArith.toInt_ofNat_small k (by omega)
  unfold IntOp.maxsi
  by_cases hs : (0#32).slt (BitVec.ofNat 32 k) = true
  · rw [if_pos hs]
  · rw [if_neg hs]
    rw [BitVec.slt_eq_decide, hk] at hs
    simp at hs
    rw [hs]

/-- What it takes to be kept. -/
theorem kept_iff (a0 : FVec Ideal S16384x3 .f32) (a1 : FVec Ideal S16384x1 .f32) (a2 : FVec Ideal S16384x3x3 .f32) (n : Fin 16384) :
    kept a0 a1 a2 (ix1 n) = 1#1 ↔ (∀ a, ((loR a : ℝ) : EReal) < boxHi a0 a2 (ix2 n a)) ∧ (∀ a, boxLo a0 a2 (ix2 n a) < ((hiR a : ℝ) : EReal))
      ∧ Ideal.ofBits .f32 0x38D1B717#32 < a1 (ix2 n 0) := by
  have h1 : kept a0 a1 a2 (ix1 n) = IntOp.andi (IntOp.andi
      (Host.reduce IntOp.andi (cmpf .ogt (boxHi a0 a2) (rows (loC (F := Ideal)))) (constantI S_ 1 1#1) reducesTo_S16384x3_S16384_d1 h_S_ (ix1 n))
      (Host.reduce IntOp.andi (cmpf .olt (boxLo a0 a2) (rows (hiC (F := Ideal)))) (constantI S_ 1 1#1) reducesTo_S16384x3_S16384_d1 h_S_ (ix1 n)))
      (Ideal.cmp .ogt (shapeCast S16384 a1 shapeCasts_S16384x1_S16384 (ix1 n)) (Ideal.ofBits .f32 0x38D1B717#32)) := rfl
  have hr : ∀ x : IVec S16384x3 1, Host.reduce IntOp.andi x (constantI S_ 1 1#1) reducesTo_S16384x3_S16384_d1 h_S_ (ix1 n) = 1#1 ↔ ∀ a, x (ix2 n a) = 1#1 := by
    intro x
    rw [show (∀ a, x (ix2 n a) = 1#1) ↔ x (ix2 n 0) = 1#1 ∧ x (ix2 n 1) = 1#1 ∧ x (ix2 n 2) = 1#1 from Fin.forall_fin_succ.trans (and_congr_right fun _ => Fin.forall_fin_two)]
    pointwise
    have e : Finset.fold IntOp.andi (1#1) (fun a => x (ix2 n a)) Finset.univ = IntOp.andi (x (ix2 n 0)) (IntOp.andi (x (ix2 n 1)) (IntOp.andi (x (ix2 n 2)) 1#1)) := rfl
    rw [e]
    generalize x (ix2 n 0) = p
    generalize x (ix2 n 1) = q
    generalize x (ix2 n 2) = r
    revert p q r; decide
  have hs : shapeCast S16384 a1 shapeCasts_S16384x1_S16384 (ix1 n) = a1 (ix2 n 0) := by pointwise
  have ha : ∀ x y : BitVec 1, IntOp.andi x y = 1#1 ↔ x = 1#1 ∧ y = 1#1 := by decide
  have hg : ∀ a, cmpf .ogt (boxHi a0 a2) (rows (loC (F := Ideal))) (ix2 n a) = BitVec.ofBool (decide (((loR a : ℝ) : EReal) < boxHi a0 a2 (ix2 n a))) := by
    intro a
    show Ideal.cmp .ogt _ (rows (loC (F := Ideal)) (ix2 n a)) = _
    rw [rows_apply, loC_eq]; rfl
  have hl : ∀ a, cmpf .olt (boxLo a0 a2) (rows (hiC (F := Ideal))) (ix2 n a) = BitVec.ofBool (decide (boxLo a0 a2 (ix2 n a) < ((hiR a : ℝ) : EReal))) := by
    intro a
    show Ideal.cmp .olt _ (rows (hiC (F := Ideal)) (ix2 n a)) = _
    rw [rows_apply, hiC_eq]; rfl
  rw [h1, ha, ha, hr, hr, hs, and_assoc]
  simp only [hg, hl, WordArith.ofBool_eq_one_iff, decide_eq_true_eq, Ideal.cmp]

theorem inGrid_ideal (a0 : FVec Ideal S16384x3 .f32) (a1 : FVec Ideal S16384x1 .f32) (a2 : FVec Ideal S16384x3x3 .f32) : InGrid a0 a1 a2 := by
  intro n hk
  obtain ⟨-, h, -⟩ := (kept_iff a0 a1 a2 n).1 hk
  rw [start_eq, start_eq]
  have h0 := cellN_lt 0 _ (h 0)
  have h1 := cellN_lt 1 _ (h 1)
  simp only [Matrix.cons_val_zero, Matrix.cons_val_one] at h0 h1
  rw [BitVec.toNat_ofNat, BitVec.toNat_ofNat]
  omega

end Cert.Vox

end
-- ==== Proof.Frames.lean ====
module

public import proofs.«01_k».proof.Defs
public import proofs.«01_k».proof.Proof.Frame
public import proofs.«01_k».proof.Proof.Cells
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_kept_start_in_grid
public import Idealize.ShloMosaic.Lib.Quiescent

@[expose] public section

noncomputable section

/-! The programs run, their arguments unchanged. -/

namespace Cert.Vox

open Idealize.ShloMosaic Idealize.ShloMosaic.TcCoe Idealize.SL.Sem

theorem frame_kernel : Cert.quiescent_Kernel := by
  intro m g hpre
  rw [main_same, defs_same]
  refine (θ_run _ _ _).mono (fun r h => ⟨fun c => (h.1 c).2.2, h.2⟩)
    (run_post (F := Bits) m g (allOk_of m (inGrid_of_pre _ _ _ _ (hpre 0))))

theorem frame_kernelIdeal : Cert.quiescent_KernelIdeal := fun m g _ =>
  (θ_run _ _ _).mono (fun _ h => ⟨fun c => (h.1 c).2.2, h.2⟩)
    (run_post (F := Ideal) m g (allOk_of m (inGrid_ideal _ _ _)))

theorem frame_referenceIdeal : Cert.quiescent_ReferenceIdeal := fun m g _ =>
  (θ_run _ _ _).mono (fun r h => ⟨fun c => (h c).2.2, sem_eq_zero_of_no_sems (by decide) r.2⟩) (Cert.ReferenceIdeal.Value.run (F := Ideal) m g)

end Cert.Vox

end
-- ==== Proof.RefBox.lean ====
module

public import proofs.«01_k».proof.Proof.Cells
public import proofs.«01_k».proof.Proof.Gen.ReferenceIdeal.Run

@[expose] public section

noncomputable section

/-! The reference's boxes are the kernel's: it reads the diagonal by a gather where the kernel slices it. -/

namespace Cert.Vox.Ref

open Cert.ReferenceIdeal Cert.ReferenceIdeal.Value
open Idealize.ShloMosaic Idealize.ShloMosaic.TcCoe

abbrev Vals := Valuation τ sig (Elt Ideal)

variable (V : Vals)

/-- The four arguments. -/
def B0 : FVec Ideal S16384x3 .f32 := V (Proc.devRef .tc main_arg0)
def B1 : FVec Ideal S16384x1 .f32 := V (Proc.devRef .tc main_arg1)
def B2 : FVec Ideal S16384x3x3 .f32 := V (Proc.devRef .tc main_arg2)
def B3 : FVec Ideal S16384x16 .f32 := V (Proc.devRef .tc main_arg3)

theorem gathered (x : FVec Ideal S16384x3x3 .f32) (idx : IVec S3x2 32) (h : ∀ (a : Fin 3) (b : Fin 2), idx (ix2 a b) = BitVec.ofNat 32 a.val)
    (n : Fin 16384) (a : Fin 3) :
    Host.gather gather_S16384x3x3_S3x2_S16384x3_0_12_n_n_12_1_1638411 x idx (ix2 n a) = x (ix3 n a a) := by
  refine congrArg x ?_
  funext b
  apply Fin.ext
  have hs : ∀ b : Fin 2, (gather_S16384x3x3_S3x2_S16384x3_0_12_n_n_12_1_1638411).siIdx (ix2 n a) b = ix2 a b := by
    intro b; funext c; fin_cases c <;> rfl
  have e0 : ∀ b : Fin 3, (h0 : b ∈ (gather_S16384x3x3_S3x2_S16384x3_0_12_n_n_12_1_1638411).startIndexMap) →
      (gather_S16384x3x3_S3x2_S16384x3_0_12_n_n_12_1_1638411).start (ix2 n a) idx b = min a.val (S16384x3x3.size b - (![16384, 1, 1] : Fin 3 → ℕ) b) := by
    intro b h0
    unfold GatherDims.start
    rw [dif_pos h0]
    refine congrArg (fun k => min k _) ?_
    refine (congrArg (fun i => (idx i).toInt.toNat) (hs _)).trans ?_
    exact (congrArg (fun i : BitVec 32 => i.toInt.toNat) (h a _)).trans (congrArg Int.toNat (WordArith.toInt_ofNat_small _ (by omega)))
  fin_cases b
  · show (gather_S16384x3x3_S3x2_S16384x3_0_12_n_n_12_1_1638411).start (ix2 n a) idx 0 + _ + _ = n.val
    have : (gather_S16384x3x3_S3x2_S16384x3_0_12_n_n_12_1_1638411).start (ix2 n a) idx 0 = 0 := by
      unfold GatherDims.start; rw [dif_neg (by decide)]
    rw [this]
    show 0 + 0 + n.val = n.val
    omega
  · show (gather_S16384x3x3_S3x2_S16384x3_0_12_n_n_12_1_1638411).start (ix2 n a) idx 1 + 0 + 0 = a.val
    rw [e0 1 (by decide)]
    show min a.val 2 + 0 + 0 = _
    omega
  · show (gather_S16384x3x3_S3x2_S16384x3_0_12_n_n_12_1_1638411).start (ix2 n a) idx 2 + 0 + 0 = a.val
    rw [e0 2 (by decide)]
    show min a.val 2 + 0 + 0 = _
    omega

/-- The square root of the diagonal. -/
theorem v1_at (n : Fin 16384) (a : Fin 3) : res_main_v1 V (ix2 n a) = Ideal.sqrt (B2 V (ix3 n a a)) := by
  unfold res_main_v1
  refine congrArg Ideal.sqrt ?_
  refine gathered _ _ ?_ n a
  intro a b
  unfold res_main_call0_v0 res_main_call0_v1
  revert a b
  decide

/-- The kernel's three standard deviations at an index. -/
theorem reach_at (x : FVec Ideal S16384x3x3 .f32) (n : Fin 16384) (a : Fin 3) :
    reach x (ix2 n a) = Ideal.ofBits .f32 0x40400000#32 * Ideal.sqrt (x (ix3 n a a)) := by
  unfold reach
  refine congrArg (fun y => Ideal.ofBits .f32 0x40400000#32 * Ideal.sqrt y) ?_
  fin_cases a <;> unfold diag <;> pointwise

theorem v4_eq : res_main_v4 V = boxLo (B0 V) (B2 V) := by
  funext j
  idx_vars j
  unfold res_main_v4 boxLo
  refine congrArg (fun y => B0 V _ - y) ?_
  refine Eq.trans ?_ (reach_at _ _ _).symm
  rw [← v1_at]; rfl

theorem v7_eq : res_main_v7 V = boxHi (B0 V) (B2 V) := by
  funext j
  idx_vars j
  unfold res_main_v7 boxHi
  refine congrArg (fun y => B0 V _ + y) ?_
  refine Eq.trans ?_ (reach_at _ _ _).symm
  rw [← v1_at]; rfl

theorem cst_eq : res_main_cst V = loC (F := Ideal) := by
  funext i; fin_cases i <;> rfl

end Cert.Vox.Ref

end
-- ==== Proof.RefGrid.lean ====
module

public import proofs.«01_k».proof.Proof.RefBox

@[expose] public section

noncomputable section

/-! The reference's window: its offsets, voxel numbers and voxel centres at an index. -/

namespace Cert.Vox.Ref

open Cert.ReferenceIdeal Cert.ReferenceIdeal.Value
open Idealize.ShloMosaic Idealize.ShloMosaic.TcCoe

variable (V : Vals)

theorem cst_0_eq : res_main_cst_0 V = hiC (F := Ideal) := by
  funext i; fin_cases i <;> rfl

theorem c_eq : res_main_c V = fun i => Cert.KernelIdeal.lit2 (S3.rowMajor i) := by
  funext i; fin_cases i <;> rfl

theorem v30_eq : res_main_v30 V = start (B0 V) (B2 V) := by
  unfold res_main_v30
  rw [v4_eq, cst_eq, cst_0_eq]
  rfl

/-- The offset in the window, by axis. -/
def offN (k : Fin 512) (a : Fin 3) : ℕ := ![k.val / 64, k.val / 8 % 8, k.val % 8] a

theorem offN_lt (k : Fin 512) (a : Fin 3) : offN k a < 8 := by
  unfold offN
  fin_cases a <;> simp <;> omega

theorem v50_at (k : Fin 512) (a : Fin 3) : res_main_v50 V (ix2 k a) = BitVec.ofNat 32 (offN k a) := by
  unfold res_main_v50 res_main_v42
  fin_cases a <;> pointwise <;> rfl

theorem v55_at (n : Fin 16384) (k : Fin 512) (a : Fin 3) :
    res_main_v55 V (ix3 n k a) = BitVec.ofNat 32 (cellN a (boxLo (B0 V) (B2 V) (ix2 n a)) + offN k a) := by
  unfold res_main_v55
  rw [v30_eq]
  pointwise
  refine (congrArg₂ IntOp.addi (start_eq _ _ n a) (v50_at V k a)).trans ?_
  exact (BitVec.ofNat_add _ _).symm

/-- The displacement of a voxel's centre from the mean. -/
theorem v76_at (n : Fin 16384) (k : Fin 512) (a : Fin 3) :
    res_main_v76 V (ix3 n k a) = FloatOps.sitofp (F := Ideal) .f32 (res_main_v55 V (ix3 n k a)) * Ideal.ofBits .f32 0x3F000000#32 + (loR a : EReal)
      + Ideal.ofBits .f32 0x3E800000#32 - B0 V (ix2 n a) := by
  unfold res_main_v76
  rw [cst_eq, ← loC_eq]
  pointwise
  rfl

end Cert.Vox.Ref

end
-- ==== Proof.Window.lean ====
module

public import proofs.«01_k».proof.Proof.Cells
public import Idealize.ShloMosaic.Lib.Pipeline.Value

@[expose] public section

noncomputable section

/-! A Gaussian's window, on extended reals. -/

namespace Cert.Vox

open Cert.KernelIdeal Cert.KernelIdeal.Gen

open Idealize.ShloMosaic Idealize.ShloMosaic.TcCoe

/-- A truth value as a number. -/
def bitE (b : BitVec 1) : EReal := ((b.toNat : ℝ) : EReal)

theorem sitofp_bit (b : BitVec 1) : (FloatOps.sitofp (F := Ideal) FTy.f32 (BitVec.setWidth 32 b) : EReal) = bitE b := by
  have e : (BitVec.setWidth 32 b).toInt = b.toNat := by revert b; decide
  show ((((BitVec.setWidth 32 b).toInt : ℤ) : ℝ) : EReal) = _
  rw [e]; rfl

/-- The reciprocal of a symmetric matrix's determinant. -/
def rdE (a b c e f i : EReal) : EReal :=
  Ideal.div 1 (a * (e * i - f * f) - b * (b * i - c * f) + c * (b * f - c * e))

/-- The quadratic form's exponent as the kernel spells it. -/
def quadE (a b c e f i dx dy dz : EReal) : EReal :=
  let rd := rdE a b c e f i
  Ideal.ofBits .f32 0xBF000000#32 * ((e * i - f * f) * rd * dx * dx + (a * i - c * c) * rd * dy * dy + (a * e - b * b) * rd * dz * dz
    + Ideal.ofBits .f32 0x40000000#32 * ((c * f - b * i) * rd * dx * dy + (b * f - c * e) * rd * dx * dz + (b * c - a * f) * rd * dy * dz))

/-- The level of a lane. -/
def lev (l : Fin 512) : ℕ := if l.val < 384 then l.val / 16 else l.val - 384

def nE (n : ℕ) : EReal := ((n : ℝ) : EReal)

theorem sitofp_nat (n : ℕ) (h : n < 2 ^ 31) : (FloatOps.sitofp (F := Ideal) FTy.f32 (BitVec.ofNat 32 n) : EReal) = nE n := by
  show ((((BitVec.ofNat 32 n).toInt : ℤ) : ℝ) : EReal) = _
  rw [WordArith.toInt_ofNat_small n h]; rfl

theorem pay18_apply (r : Fin 8) : k0_pay18 (F := Ideal) (ix4 0 r 0 0) = nE r.val := by
  unfold k0_pay18
  pointwise
  exact sitofp_nat _ (by omega)
theorem pay19_apply (y : Fin 16) : k0_pay19 (F := Ideal) (ix4 0 0 y 0) = nE y.val := by
  unfold k0_pay19
  pointwise
  exact sitofp_nat _ (by omega)

theorem pay20_apply (l : Fin 512) : k0_pay20 (ix4 0 0 0 l) = BitVec.ofBool (decide (l.val < 384)) := by
  unfold k0_pay20
  pointwise
  revert l
  decide +kernel

theorem pay21_apply (l : Fin 512) : k0_pay21 (ix4 0 0 0 l) = BitVec.ofNat 32 (l.val / 16) := by
  unfold k0_pay21
  pointwise
  revert l
  decide +kernel

theorem pay23_apply (l : Fin 512) :
    k0_pay23 (F := Ideal) (iota .tc S1x1x1x512 32 [3] iota_S1x1x1x512_d3_w32) k0_pay20 k0_pay21 k0_pay22 (ix4 0 0 0 l) = nE (lev l) := by
  unfold k0_pay23
  pointwise
  rw [pay20_apply, pay21_apply]
  rw [show k0_pay22 (ix4 0 0 0 l) = 384#32 from rfl]
  rw [← sitofp_nat (lev l) (by unfold lev; split <;> omega)]
  congr 1
  revert l
  unfold lev
  decide +kernel

theorem pay10_apply (v3 v6 v9 v12 v15 v18 : S16x1.Idx → EReal) (k : Fin 16) :
    k0_pay10 (F := Ideal) v3 v6 v9 v12 v15 v18 (ix4 k 0 0 0)
      = rdE (v3 (ix2 k 0)) (v6 (ix2 k 0)) (v9 (ix2 k 0)) (v12 (ix2 k 0)) (v15 (ix2 k 0)) (v18 (ix2 k 0)) := by
  unfold k0_pay10 k0_pay4 k0_pay5 k0_pay6 k0_pay7 k0_pay8 k0_pay9 rdE
  pointwise

theorem col_apply (v : S16x1.Idx → EReal) (k : Fin 16) : k0_pay4 (F := Ideal) v (ix4 k 0 0 0) = v (ix2 k 0) := by
  unfold k0_pay4
  pointwise

theorem pay34_apply (v : S16x1.Idx → EReal) (k : Fin 16) : k0_pay34 (F := Ideal) v (ix4 k 0 0 0)
    = Ideal.liftRound Int.floor (v (ix2 k 0) * Ideal.ofBits .f32 0x3E000000#32) * Ideal.ofBits .f32 0x41000000#32 := by
  unfold k0_pay34 k0_pay28
  pointwise

/-- The offsets from the mean, as the kernel spells them. -/
def offXY (s d m : EReal) : EReal := (s + d) * Ideal.ofBits .f32 0x3F000000#32 + Ideal.ofBits .f32 0xC2470000#32 - m
def offZ (d m : EReal) : EReal := (d + Ideal.ofBits .f32 0x3F000000#32) * Ideal.ofBits .f32 0x3F000000#32 + Ideal.ofBits .f32 0xC0A00000#32 - m

def leE (x y : EReal) : BitVec 1 := BitVec.ofBool (decide (x ≤ y))

/-- The start of the window along y. -/
def alignE (y0 : EReal) : EReal := Ideal.liftRound Int.floor (y0 * Ideal.ofBits .f32 0x3E000000#32) * Ideal.ofBits .f32 0x41000000#32

/-- Whether a voxel of the window is in the box, as a number. -/
def inE (x y z y0 z0 sx sy sz : EReal) : EReal :=
  bitE (leE x sx) * bitE (IntOp.andi (leE 0 (alignE y0 + y - y0)) (leE (alignE y0 + y - y0) sy)) * bitE (IntOp.andi (leE 0 (z - z0)) (leE (z - z0) sz))

/-- What a lane carries. -/
def featE (ft : Fin 16 → EReal) (l : Fin 512) : EReal :=
  if l.val < 384 then ft ⟨l.val % 16, Nat.mod_lt _ (by decide)⟩ else if l.val < 408 then 1 else 0

theorem pay42_apply (v : S16x16.Idx → EReal) (k : Fin 16) (l : Fin 384) :
    k0_pay42 (F := Ideal) v (ix2 k l) = v (ix2 k ⟨l.val % 16, Nat.mod_lt _ (by decide)⟩) := by
  exact Idealize.ShloMosaic.concatenate_replicate_apply (t := S16x384) (s₁ := S16x16) 1 24 v
    concatenates_S16x16_S16x16_S16x16_S16x16_S16x16_S16x16_S16x16_S16x16_S16x16_S16x16_S16x16_S16x16_S16x16_S16x16_S16x16_S16x16_S16x16_S16x16_S16x16_S16x16_S16x16_S16x16_S16x16_S16x16_S16x384_d1
    rfl (ix2 k l) (ix2 k ⟨l.val % 16, Nat.mod_lt _ (by decide)⟩) rfl (by intro b hb; fin_cases b; · rfl
                                                                         · exact absurd rfl hb)

set_option maxHeartbeats 4000000 in
theorem ws_apply (X5 : S16x3.Idx → EReal) (X6 : S16x1.Idx → EReal) (X7 : S16x9.Idx → EReal) (X8 : S16x16.Idx → EReal)
    (X9 X10 : S16x3.Idx → EReal) (k : Fin 16) (r : Fin 8) (y : Fin 16) (l : Fin 512) :
    ws (F := Ideal) X5 X6 X7 X8 X9 X10 (ix4 k r y l)
      = X6 (ix2 k 0) * Ideal.exp (quadE (X7 (ix2 k 0)) (X7 (ix2 k 1)) (X7 (ix2 k 2)) (X7 (ix2 k 4)) (X7 (ix2 k 5)) (X7 (ix2 k 8))
            (offXY (X9 (ix2 k 0)) (nE r.val) (X5 (ix2 k 0))) (offXY (alignE (X9 (ix2 k 1))) (nE y.val) (X5 (ix2 k 1))) (offZ (nE (lev l)) (X5 (ix2 k 2))))
          * inE (nE r.val) (nE y.val) (nE (lev l)) (X9 (ix2 k 1)) (X9 (ix2 k 2)) (X10 (ix2 k 0)) (X10 (ix2 k 1)) (X10 (ix2 k 2))
          * featE (fun f => X8 (ix2 k f)) l := by
  unfold ws k0_pay1 k0_pay41
  pointwise
  unfold k0_pay11 k0_pay12 k0_pay13 k0_pay14 k0_pay15 k0_pay16 k0_pay17 k0_pay35 k0_pay36 k0_pay37 k0_pay38 k0_pay39 k0_pay40
  pointwise
  simp only [pay10_apply, pay18_apply, pay19_apply, pay23_apply, pay34_apply]
  unfold k0_pay4 k0_pay5 k0_pay6 k0_pay7 k0_pay8 k0_pay9 k0_pay24 k0_pay25 k0_pay26 k0_pay27 k0_pay28 k0_pay29 k0_pay30 k0_pay31 k0_pay32 k0_pay33
  pointwise
  rw [pay23_apply]
  simp only [sitofp_bit]
  refine congrArg₂ (· * ·) rfl ?_
  unfold featE
  by_cases h : l.val < 384
  · rw [dif_pos h, if_pos h, pay42_apply]
    pointwise
  · rw [dif_neg h, if_neg h]
    by_cases h2 : l.val < 408
    · rw [dif_pos (by omega), if_pos h2]
    · rw [dif_neg (by omega), if_neg h2]

end Cert.Vox
end
-- ==== Proof.RefTerm.lean ====
module

public import proofs.«01_k».proof.Proof.RefGrid
public import proofs.«01_k».proof.Proof.Window

@[expose] public section

noncomputable section

/-! The reference's contribution of one Gaussian to one voxel of its window. -/

namespace Cert.Vox.Ref

open Cert.ReferenceIdeal Cert.ReferenceIdeal.Value
open Idealize.ShloMosaic Idealize.ShloMosaic.TcCoe
open Idealize.ShloMosaic.ValueIdx (contrEquiv1 contrEquiv1_symm_val)

variable (V : Vals)

/-- The adjugate's entries and the determinant. -/
def cofE (m : Fin 3 → Fin 3 → EReal) (i j : Fin 3) : EReal := m (i + 1) (j + 1) * m (i + 2) (j + 2) - m (i + 1) (j + 2) * m (i + 2) (j + 1)
def detE (m : Fin 3 → Fin 3 → EReal) : EReal := m 0 0 * cofE m 0 0 + m 0 1 * cofE m 0 1 + m 0 2 * cofE m 0 2

/-- A Gaussian's covariance. -/
def covE (n : Fin 16384) (i j : Fin 3) : EReal := B2 V (ix3 n i j)

/-- The determinants, one per Gaussian. -/
def dets : FVec Ideal S16384 .f32 := fun i => detE (covE V (i 0))

theorem v235_at (n : Fin 16384) (i j : Fin 3) : res_main_v235 V (ix3 n i j) = cofE (covE V n) j i := by
  unfold res_main_v235
  fin_cases i <;> fin_cases j <;> pointwise <;> rfl

theorem dot_rows (x : FVec Ideal S16384x3x3 .f32) (y : FVec Ideal S16384x512x3 .f32) (n : Fin 16384) (j : Fin 3) (k : Fin 512) :
    Host.dotGeneral dot_S16384x3x3_S16384x512x3_S16384x3x512_1_2_2_1_0_0 none x y (ix3 n j k) = ∑ i : Fin 3, x (ix3 n i j) * y (ix3 n k i) := by
  refine (Ideal.dotGeneral_apply _ _ _ _ _ _).trans ?_
  rw [← Equiv.sum_comp (contrEquiv1 dot_S16384x3x3_S16384x512x3_S16384x3x512_1_2_2_1_0_0 3 rfl rfl).symm]
  refine Finset.sum_congr rfl fun i _ => ?_
  have h0 := contrEquiv1_symm_val dot_S16384x3x3_S16384x512x3_S16384x3x512_1_2_2_1_0_0 3 rfl rfl i
  refine congrArg₂ (· * ·) (congrArg x ?_) (congrArg y ?_)
  · funext a; apply Fin.ext
    match a with
    | ⟨0, _⟩ => rfl
    | ⟨1, _⟩ => exact h0
    | ⟨2, _⟩ => rfl
  · funext a; apply Fin.ext
    match a with
    | ⟨0, _⟩ => rfl
    | ⟨1, _⟩ => rfl
    | ⟨2, _⟩ => exact h0

theorem dot_cols (x : FVec Ideal S16384x512x3 .f32) (y : FVec Ideal S16384x3x512 .f32) (n : Fin 16384) (k : Fin 512) :
    Host.dotGeneral dot_S16384x512x3_S16384x3x512_S16384x512_2_1_n_n_01_02 none x y (ix2 n k) = ∑ j : Fin 3, x (ix3 n k j) * y (ix3 n j k) := by
  refine (Ideal.dotGeneral_apply _ _ _ _ _ _).trans ?_
  rw [← Equiv.sum_comp (contrEquiv1 dot_S16384x512x3_S16384x3x512_S16384x512_2_1_n_n_01_02 3 rfl rfl).symm]
  refine Finset.sum_congr rfl fun i _ => ?_
  have h0 := contrEquiv1_symm_val dot_S16384x512x3_S16384x3x512_S16384x512_2_1_n_n_01_02 3 rfl rfl i
  refine congrArg₂ (· * ·) (congrArg x ?_) (congrArg y ?_)
  · funext a; apply Fin.ext
    match a with
    | ⟨0, _⟩ => rfl
    | ⟨1, _⟩ => rfl
    | ⟨2, _⟩ => exact h0
  · funext a; apply Fin.ext
    match a with
    | ⟨0, _⟩ => rfl
    | ⟨1, _⟩ => exact h0
    | ⟨2, _⟩ => rfl

/-- The squared distance the reference computes. -/
def quadR (m : Fin 3 → Fin 3 → EReal) (d : Fin 3 → EReal) : EReal := ∑ j : Fin 3, d j * ∑ i : Fin 3, Ideal.div (cofE m j i) (detE m) * d i

/-- Whether the voxel is in the Gaussian's box, and the Gaussian kept. -/
def validR (n : Fin 16384) (k : Fin 512) : BitVec 1 :=
  IntOp.andi (Finset.fold IntOp.andi 1#1 (fun a : Fin 3 => IntOp.cmpi .sle (res_main_v50 V (ix2 k a)) (IntOp.subi (stop (B0 V) (B2 V) (ix2 n a)) (start (B0 V) (B2 V) (ix2 n a)))) Finset.univ)
    (kept (B0 V) (B1 V) (B2 V) (ix1 n))

theorem spread (x : IVec S16384 1) (n : Fin 16384) (k : Fin 512) :
    broadcastInDim S16384x512 ![0, 1] Gen.bcast_S16384x1_S16384x512_0_1 (broadcastInDim S16384x1 ![0] Gen.bcast_S16384_S16384x1_0 x) (ix2 n k) = x (ix1 n) := by
  pointwise

theorem v247_at (n : Fin 16384) (k : Fin 512) :
    res_main_v247 V (ix2 n k) = B1 V (ix2 n 0) * Ideal.exp (Ideal.ofBits .f32 0xBF000000#32 * quadR (covE V n) (fun a => res_main_v76 V (ix3 n k a)))
      * bitE (validR V n k) := by
  unfold res_main_v247
  rw [v30_eq, v4_eq, v7_eq, cst_eq, cst_0_eq, c_eq]
  refine congrArg₂ (· * ·) (congrArg₂ (fun x y : EReal => x * Ideal.exp (Ideal.ofBits .f32 0xBF000000#32 * y)) ?_ ?_) ?_
  · pointwise
    rfl
  · refine (dot_cols _ _ n k).trans ?_
    refine Finset.sum_congr rfl fun j _ => congrArg₂ (· * ·) rfl ?_
    refine (dot_rows _ _ n j k).trans ?_
    refine Finset.sum_congr rfl fun i _ => congrArg₂ (· * ·) ?_ rfl
    refine congrArg₂ Ideal.div (v235_at V n i j) ?_
    pointwise
    rfl
  · show bitE _ = bitE _
    refine congrArg bitE (congrArg₂ IntOp.andi ?_ ?_)
    · unfold stop voxel clipped rows
      pointwise
    · exact spread (kept (B0 V) (B1 V) (B2 V)) n k

end Cert.Vox.Ref

end
-- ==== Proof.Span.lean ====
module

public import proofs.«01_k».proof.Proof.RefTerm

@[expose] public section

noncomputable section

/-! The boxes: where each Gaussian's window ends, and how far that is from where it starts. -/

namespace Cert.Vox

open Cert.KernelIdeal Cert.KernelIdeal.Gen
open Idealize.ShloMosaic Idealize.ShloMosaic.TcCoe

/-- The last voxel of a Gaussian's box along an axis, inside the grid, and the first. -/
def headN (a0 : FVec Ideal S16384x3 .f32) (a2 : FVec Ideal S16384x3x3 .f32) (n : Fin 16384) (a : Fin 3) : ℕ := cellN a (boxLo a0 a2 (ix2 n a))
def lastN (a0 : FVec Ideal S16384x3 .f32) (a2 : FVec Ideal S16384x3x3 .f32) (n : Fin 16384) (a : Fin 3) : ℕ :=
  min (cellN a (boxHi a0 a2 (ix2 n a))) ((![199, 199, 15] : Fin 3 → ℕ) a)

theorem headN_le (a0 : FVec Ideal S16384x3 .f32) (a2 : FVec Ideal S16384x3x3 .f32) (n : Fin 16384) (a : Fin 3) : headN a0 a2 n a ≤ 200 := cellN_le _ _
theorem lastN_le (a0 : FVec Ideal S16384x3 .f32) (a2 : FVec Ideal S16384x3x3 .f32) (n : Fin 16384) (a : Fin 3) : lastN a0 a2 n a ≤ 200 :=
  le_trans (min_le_left _ _) (cellN_le _ _)

/-- The smaller of two natural numbers in words. -/
theorem min_nat (v g : ℕ) (hv : v < 2 ^ 31) (hg : g < 2 ^ 31) : IntOp.minsi (BitVec.ofNat 32 v) (BitVec.ofNat 32 g) = BitVec.ofNat 32 (min v g) := by
  have h1 := WordArith.toInt_ofNat_small v hv
  have h2 := WordArith.toInt_ofNat_small g hg
  unfold IntOp.minsi
  by_cases hs : (BitVec.ofNat 32 v).slt (BitVec.ofNat 32 g) = true
  · rw [if_pos hs]
    rw [BitVec.slt_eq_decide, h1, h2] at hs
    simp at hs
    rw [min_eq_left (by omega)]
  · rw [if_neg hs]
    rw [BitVec.slt_eq_decide, h1, h2] at hs
    simp at hs
    rw [min_eq_right (by omega)]

theorem stop_eq (a0 : FVec Ideal S16384x3 .f32) (a2 : FVec Ideal S16384x3x3 .f32) (n : Fin 16384) (a : Fin 3) :
    stop a0 a2 (ix2 n a) = BitVec.ofNat 32 (lastN a0 a2 n a) := by
  have h1 : stop a0 a2 (ix2 n a) = IntOp.minsi (voxel (boxHi a0 a2) (ix2 n a)) (rows (subi (fun i => lit2 (S3.rowMajor i)) (broadcastInDim S3 ![] bcast_S_S3 (constantI S_ 32 1#32))) (ix2 n a)) := rfl
  have h2 : rows (subi (fun i => lit2 (S3.rowMajor i)) (broadcastInDim S3 ![] bcast_S_S3 (constantI S_ 32 1#32))) (ix2 n a) = BitVec.ofNat 32 ((![199, 199, 15] : Fin 3 → ℕ) a) := by
    rw [rows_apply]
    fin_cases a <;> rfl
  have h3 := cellN_le a (boxHi a0 a2 (ix2 n a))
  rw [h1, h2, voxel_eq, min_nat _ _ (by omega) (by fin_cases a <;> simp)]
  rfl

/-- The box's width along an axis, as the words compute it. -/
theorem width_int (a0 : FVec Ideal S16384x3 .f32) (a2 : FVec Ideal S16384x3x3 .f32) (n : Fin 16384) (a : Fin 3) :
    (IntOp.subi (stop a0 a2 (ix2 n a)) (start a0 a2 (ix2 n a))).toInt = (lastN a0 a2 n a : ℤ) - headN a0 a2 n a := by
  rw [stop_eq, start_eq]
  have h1 := headN_le a0 a2 n a
  have h2 := lastN_le a0 a2 n a
  show (BitVec.ofNat 32 (lastN a0 a2 n a) - BitVec.ofNat 32 (headN a0 a2 n a)).toInt = _
  generalize lastN a0 a2 n a = x at *
  generalize headN a0 a2 n a = y at *
  rw [BitVec.toInt_sub, WordArith.toInt_ofNat_small _ (by omega), WordArith.toInt_ofNat_small _ (by omega)]
  exact Int.bmod_eq_of_le (by omega) (by omega)

/-- What is asked of the covariances, of one Gaussian: real entries, the diagonal at most 0.3401, the matrix symmetric and its
    determinant nonzero. -/
structure Tame (a2 : FVec Ideal S16384x3x3 .f32) (n : Fin 16384) (m : Fin 3 → Fin 3 → ℝ) : Prop where
  real : ∀ i j, a2 (ix3 n i j) = ((m i j : ℝ) : EReal)
  small : ∀ a, m a a ≤ 3401 / 10000
  h01 : m 0 1 = m 1 0
  h02 : m 0 2 = m 2 0
  h12 : m 1 2 = m 2 1
  det : m 0 0 * (m 1 1 * m 2 2 - m 1 2 * m 1 2) - m 0 1 * (m 0 1 * m 2 2 - m 0 2 * m 1 2) + m 0 2 * (m 0 1 * m 1 2 - m 0 2 * m 1 1) ≠ 0

theorem three_bits : Ideal.ofBits .f32 0x40400000#32 = ((3 : ℝ) : EReal) := by
  simp [Ideal.ofBits, Ideal.ieee, -EReal.coe_mul]
  norm_num

/-- A kept Gaussian's mean is real, its reach a real number under 1.75. -/
theorem kept_real (a0 : FVec Ideal S16384x3 .f32) (a1 : FVec Ideal S16384x1 .f32) (a2 : FVec Ideal S16384x3x3 .f32) (n : Fin 16384)
    (m : Fin 3 → Fin 3 → ℝ) (ht : Tame a2 n m) (hk : kept a0 a1 a2 (ix1 n) = 1#1) (a : Fin 3) :
    ∃ x r : ℝ, a0 (ix2 n a) = (x : EReal) ∧ reach a2 (ix2 n a) = (r : EReal) ∧ 0 ≤ r ∧ r * 4 < 7 := by
  obtain ⟨hhi, hlo, -⟩ := (kept_iff a0 a1 a2 n).1 hk
  have h1 : ((loR a : ℝ) : EReal) < a0 (ix2 n a) + reach a2 (ix2 n a) := hhi a
  have h2 : a0 (ix2 n a) - reach a2 (ix2 n a) < ((hiR a : ℝ) : EReal) := hlo a
  have hr : reach a2 (ix2 n a) = ((3 : ℝ) : EReal) * Ideal.sqrt ((m a a : ℝ) : EReal) := by
    refine (Ref.reach_at a2 n a).trans ?_
    rw [three_bits, ht.real]
  by_cases hn : 0 ≤ m a a
  · have hs : Ideal.sqrt ((m a a : ℝ) : EReal) = ((Real.sqrt (m a a) : ℝ) : EReal) := if_neg (not_lt.2 hn)
    rw [hs, ← EReal.coe_mul] at hr
    have hb := ht.small a
    have hq := Real.sq_sqrt hn
    have hp := Real.sqrt_nonneg (m a a)
    rw [hr] at h1 h2
    have hx : ∀ y : EReal, ((loR a : ℝ) : EReal) < y + ((3 * Real.sqrt (m a a) : ℝ) : EReal) → y - ((3 * Real.sqrt (m a a) : ℝ) : EReal) < ((hiR a : ℝ) : EReal) →
        ∃ x : ℝ, y = (x : EReal) := by
      intro y
      induction y using EReal.rec with
      | bot => intro h; rw [EReal.bot_add] at h; exact absurd h not_lt_bot
      | top => intro _ h; rw [EReal.top_sub_coe] at h; exact absurd h not_top_lt
      | coe x => exact fun _ _ => ⟨x, rfl⟩
    obtain ⟨x, hx⟩ := hx _ h1 h2
    exact ⟨x, 3 * Real.sqrt (m a a), hx, hr, by positivity, by nlinarith⟩
  · have hs : Ideal.sqrt ((m a a : ℝ) : EReal) = ⊥ := if_pos (not_le.1 hn)
    rw [hr, hs, EReal.coe_mul_bot_of_pos (by norm_num), EReal.add_bot] at h1
    exact absurd h1 not_lt_bot

/-- So its box is at most eight voxels wide. -/
theorem last_le (a0 : FVec Ideal S16384x3 .f32) (a1 : FVec Ideal S16384x1 .f32) (a2 : FVec Ideal S16384x3x3 .f32) (n : Fin 16384)
    (m : Fin 3 → Fin 3 → ℝ) (ht : Tame a2 n m) (hk : kept a0 a1 a2 (ix1 n) = 1#1) (a : Fin 3) : lastN a0 a2 n a ≤ headN a0 a2 n a + 7 := by
  obtain ⟨x, r, hx, hr, h0, h7⟩ := kept_real a0 a1 a2 n m ht hk a
  refine le_trans (min_le_left _ _) ?_
  have hlo : boxLo a0 a2 (ix2 n a) = ((x - r : ℝ) : EReal) := by
    show a0 (ix2 n a) - reach a2 (ix2 n a) = _
    rw [hx, hr, EReal.coe_sub]
  have hhi : boxHi a0 a2 (ix2 n a) = ((x + r : ℝ) : EReal) := by
    show a0 (ix2 n a) + reach a2 (ix2 n a) = _
    rw [hx, hr, EReal.coe_add]
  have hc : ∀ y : ℝ, clampR a (y : EReal) = min (hiR a) (max (loR a) y) := by
    intro y
    rw [← EReal.coe_eq_coe_iff, clampR_coe, EReal.coe_strictMono.monotone.map_min, EReal.coe_strictMono.monotone.map_max]
  unfold headN cellN
  rw [hlo, hhi, hc, hc]
  have hd : min (hiR a) (max (loR a) (x + r)) ≤ min (hiR a) (max (loR a) (x - r)) + 2 * r := by
    rcases le_total (hiR a) (max (loR a) (x - r)) with h | h
    · rw [min_eq_left h]
      exact le_trans (min_le_left _ _) (by linarith)
    · rw [min_eq_right h]
      refine le_trans (min_le_right _ _) (max_le ?_ ?_)
      · exact le_trans (le_max_left _ _) (by linarith)
      · have := le_max_right (loR a) (x - r)
        linarith
  have hp : 0 ≤ (min (hiR a) (max (loR a) (x - r)) - loR a) * 2 := by
    have := le_min (lo_lt_hi a).le (le_max_left (loR a) (x - r))
    linarith
  rw [← Nat.floor_add_natCast hp]
  refine Nat.floor_le_floor ?_
  push_cast
  linarith

end Cert.Vox

end
-- ==== Proof.Tames.lean ====
module

public import proofs.«01_k».proof.Proof.Span
public import proofs.«01_k».proof.Proof.Gen.Pre_small_covariances

@[expose] public section

noncomputable section

/-! The precondition, Gaussian by Gaussian. -/

namespace Cert.Vox

open Cert.KernelIdeal Cert.KernelIdeal.Gen
open Idealize.ShloMosaic Idealize.ShloMosaic.TcCoe

theorem bound_bits : Ideal.ofBits .f32 0x3EAE147B#32 = ((11408507 / 33554432 : ℝ) : EReal) := by
  simp [Ideal.ofBits, Ideal.ieee, -EReal.coe_mul]
  norm_num
theorem top_bits : Ideal.ofBits .f32 0x7F800000#32 = (⊤ : EReal) := by
  simp [Ideal.ofBits, Ideal.ieee]
theorem bot_bits : Ideal.ofBits .f32 0xFF800000#32 = (⊥ : EReal) := by
  simp [Ideal.ofBits, Ideal.ieee]

/-- A decision that reads one is true. -/
theorem of_ofBool {p : Prop} [Decidable p] (h : BitVec.ofBool (decide p) = 1#1) : p := by
  by_contra hp
  simp [hp] at h

variable (a0 : FVec Ideal S16384x3 .f32) (a1 : FVec Ideal S16384x1 .f32) (a2 : FVec Ideal S16384x3x3 .f32) (a3 : FVec Ideal S16384x16 .f32)

theorem pre_lt (h : (Cert.Pre_small_covariances.fn (F := Ideal) a0 a1 a2 a3).1 = fun _ => 1#1) (n : Fin 16384) (i j : Fin 3) :
    a2 (ix3 n i j) < (⊤ : EReal) := by
  have h := congrFun h (ix3 n i j)
  unfold Cert.Pre_small_covariances.fn Cert.Pre_small_covariances.fn_part1 Cert.Pre_small_covariances.fn_part2 Cert.Pre_small_covariances.fn_part3 at h
  revert h
  pointwise
  intro h
  exact (of_ofBool h).trans_eq top_bits

theorem pre_gt (h : (Cert.Pre_small_covariances.fn (F := Ideal) a0 a1 a2 a3).2.1 = fun _ => 1#1) (n : Fin 16384) (i j : Fin 3) :
    (⊥ : EReal) < a2 (ix3 n i j) := by
  have h := congrFun h (ix3 n i j)
  unfold Cert.Pre_small_covariances.fn Cert.Pre_small_covariances.fn_part1 Cert.Pre_small_covariances.fn_part2 Cert.Pre_small_covariances.fn_part3 at h
  revert h
  pointwise
  intro h
  exact bot_bits.symm.trans_lt (of_ofBool h)

theorem pre_01 (h : (Cert.Pre_small_covariances.fn (F := Ideal) a0 a1 a2 a3).2.2.1 = fun _ => 1#1) (n : Fin 16384) :
    a2 (ix3 n 0 1) = a2 (ix3 n 1 0) := by
  have h := congrFun h (ix1 n)
  unfold Cert.Pre_small_covariances.fn Cert.Pre_small_covariances.fn_part1 Cert.Pre_small_covariances.fn_part2 Cert.Pre_small_covariances.fn_part3 at h
  revert h
  pointwise
  intro h
  exact of_ofBool h

theorem pre_02 (h : (Cert.Pre_small_covariances.fn (F := Ideal) a0 a1 a2 a3).2.2.2.1 = fun _ => 1#1) (n : Fin 16384) :
    a2 (ix3 n 0 2) = a2 (ix3 n 2 0) := by
  have h := congrFun h (ix1 n)
  unfold Cert.Pre_small_covariances.fn Cert.Pre_small_covariances.fn_part1 Cert.Pre_small_covariances.fn_part2 Cert.Pre_small_covariances.fn_part3 at h
  revert h
  pointwise
  intro h
  exact of_ofBool h

theorem pre_12 (h : (Cert.Pre_small_covariances.fn (F := Ideal) a0 a1 a2 a3).2.2.2.2.1 = fun _ => 1#1) (n : Fin 16384) :
    a2 (ix3 n 1 2) = a2 (ix3 n 2 1) := by
  have h := congrFun h (ix1 n)
  unfold Cert.Pre_small_covariances.fn Cert.Pre_small_covariances.fn_part1 Cert.Pre_small_covariances.fn_part2 Cert.Pre_small_covariances.fn_part3 at h
  revert h
  pointwise
  intro h
  exact of_ofBool h

theorem pre_00 (h : (Cert.Pre_small_covariances.fn (F := Ideal) a0 a1 a2 a3).2.2.2.2.2.1 = fun _ => 1#1) (n : Fin 16384) :
    a2 (ix3 n 0 0) ≤ ((11408507 / 33554432 : ℝ) : EReal) := by
  have h := congrFun h (ix1 n)
  unfold Cert.Pre_small_covariances.fn Cert.Pre_small_covariances.fn_part1 Cert.Pre_small_covariances.fn_part2 Cert.Pre_small_covariances.fn_part3 at h
  revert h
  pointwise
  intro h
  exact (of_ofBool h).trans_eq bound_bits

theorem pre_11 (h : (Cert.Pre_small_covariances.fn (F := Ideal) a0 a1 a2 a3).2.2.2.2.2.2.1 = fun _ => 1#1) (n : Fin 16384) :
    a2 (ix3 n 1 1) ≤ ((11408507 / 33554432 : ℝ) : EReal) := by
  have h := congrFun h (ix1 n)
  unfold Cert.Pre_small_covariances.fn Cert.Pre_small_covariances.fn_part1 Cert.Pre_small_covariances.fn_part2 Cert.Pre_small_covariances.fn_part3 at h
  revert h
  pointwise
  intro h
  exact (of_ofBool h).trans_eq bound_bits

theorem pre_22 (h : (Cert.Pre_small_covariances.fn (F := Ideal) a0 a1 a2 a3).2.2.2.2.2.2.2.1 = fun _ => 1#1) (n : Fin 16384) :
    a2 (ix3 n 2 2) ≤ ((11408507 / 33554432 : ℝ) : EReal) := by
  have h := congrFun h (ix1 n)
  unfold Cert.Pre_small_covariances.fn Cert.Pre_small_covariances.fn_part1 Cert.Pre_small_covariances.fn_part2 Cert.Pre_small_covariances.fn_part3 at h
  revert h
  pointwise
  intro h
  exact (of_ofBool h).trans_eq bound_bits

theorem pre_det (h : (Cert.Pre_small_covariances.fn (F := Ideal) a0 a1 a2 a3).2.2.2.2.2.2.2.2 = fun _ => 1#1) (n : Fin 16384) :
    (a2 (ix3 n 0 0) * (a2 (ix3 n 1 1) * a2 (ix3 n 2 2) - a2 (ix3 n 1 2) * a2 (ix3 n 1 2))
      - a2 (ix3 n 0 1) * (a2 (ix3 n 0 1) * a2 (ix3 n 2 2) - a2 (ix3 n 0 2) * a2 (ix3 n 1 2))
      + a2 (ix3 n 0 2) * (a2 (ix3 n 0 1) * a2 (ix3 n 1 2) - a2 (ix3 n 0 2) * a2 (ix3 n 1 1)) : EReal) ≠ 0 := by
  have h := congrFun h (ix1 n)
  unfold Cert.Pre_small_covariances.fn Cert.Pre_small_covariances.fn_part1 Cert.Pre_small_covariances.fn_part2 Cert.Pre_small_covariances.fn_part3 at h
  revert h
  pointwise
  intro h
  exact of_ofBool h

/-- Every Gaussian the precondition admits has a symmetric real covariance whose determinant is not zero. -/
theorem tame_of
    (h : (Cert.Pre_small_covariances.fn (F := Ideal) a0 a1 a2 a3).1 = (fun _ => 1#1)
      ∧ (Cert.Pre_small_covariances.fn (F := Ideal) a0 a1 a2 a3).2.1 = (fun _ => 1#1)
      ∧ (Cert.Pre_small_covariances.fn (F := Ideal) a0 a1 a2 a3).2.2.1 = (fun _ => 1#1)
      ∧ (Cert.Pre_small_covariances.fn (F := Ideal) a0 a1 a2 a3).2.2.2.1 = (fun _ => 1#1)
      ∧ (Cert.Pre_small_covariances.fn (F := Ideal) a0 a1 a2 a3).2.2.2.2.1 = (fun _ => 1#1)
      ∧ (Cert.Pre_small_covariances.fn (F := Ideal) a0 a1 a2 a3).2.2.2.2.2.1 = (fun _ => 1#1)
      ∧ (Cert.Pre_small_covariances.fn (F := Ideal) a0 a1 a2 a3).2.2.2.2.2.2.1 = (fun _ => 1#1)
      ∧ (Cert.Pre_small_covariances.fn (F := Ideal) a0 a1 a2 a3).2.2.2.2.2.2.2.1 = (fun _ => 1#1)
      ∧ (Cert.Pre_small_covariances.fn (F := Ideal) a0 a1 a2 a3).2.2.2.2.2.2.2.2 = (fun _ => 1#1))
    (n : Fin 16384) : ∃ m : Fin 3 → Fin 3 → ℝ, Tame a2 n m := by
  obtain ⟨h1, h2, h3, h4, h5, h6, h7, h8, h9⟩ := h
  have hr : ∀ i j, a2 (ix3 n i j) = (((a2 (ix3 n i j) : EReal).toReal : ℝ) : EReal) := fun i j =>
    (EReal.coe_toReal (ne_of_lt (pre_lt a0 a1 a2 a3 h1 n i j)) (ne_of_gt (pre_gt a0 a1 a2 a3 h2 n i j))).symm
  have hd : ∀ a : Fin 3, a2 (ix3 n a a) ≤ ((11408507 / 33554432 : ℝ) : EReal) := by
    intro a
    fin_cases a
    · exact pre_00 a0 a1 a2 a3 h6 n
    · exact pre_11 a0 a1 a2 a3 h7 n
    · exact pre_22 a0 a1 a2 a3 h8 n
  refine ⟨fun i j => (a2 (ix3 n i j) : EReal).toReal, hr, fun a => ?_, ?_, ?_, ?_, fun e => ?_⟩
  · have := hd a
    rw [hr a a] at this
    exact (EReal.coe_le_coe_iff.mp this).trans (by norm_num)
  · exact congrArg EReal.toReal (pre_01 a0 a1 a2 a3 h3 n)
  · exact congrArg EReal.toReal (pre_02 a0 a1 a2 a3 h4 n)
  · exact congrArg EReal.toReal (pre_12 a0 a1 a2 a3 h5 n)
  · apply pre_det a0 a1 a2 a3 h9 n
    rw [hr 0 0, hr 0 1, hr 0 2, hr 1 1, hr 1 2, hr 2 2]
    exact_mod_cast e

end Cert.Vox

end
-- ==== Proof.Maha.lean ====
module

public import proofs.«01_k».proof.Proof.Window
public import proofs.«01_k».proof.Proof.RefTerm

@[expose] public section

noncomputable section

/-! The two ways of writing the squared distance agree on real numbers. -/

namespace Cert.Vox

open Cert.KernelIdeal Cert.KernelIdeal.Gen
open Idealize.ShloMosaic Idealize.ShloMosaic.TcCoe

/-- The adjugate's entries and the determinant of a real matrix. -/
def cofR (m : Fin 3 → Fin 3 → ℝ) (i j : Fin 3) : ℝ := m (i + 1) (j + 1) * m (i + 2) (j + 2) - m (i + 1) (j + 2) * m (i + 2) (j + 1)
def detR (m : Fin 3 → Fin 3 → ℝ) : ℝ := m 0 0 * cofR m 0 0 + m 0 1 * cofR m 0 1 + m 0 2 * cofR m 0 2

theorem cofE_coe (m : Fin 3 → Fin 3 → ℝ) (i j : Fin 3) : Ref.cofE (fun a b => (m a b : EReal)) i j = ((cofR m i j : ℝ) : EReal) := by
  unfold Ref.cofE cofR
  norm_cast

theorem detE_coe (m : Fin 3 → Fin 3 → ℝ) : Ref.detE (fun a b => (m a b : EReal)) = ((detR m : ℝ) : EReal) := by
  unfold Ref.detE detR
  rw [cofE_coe, cofE_coe, cofE_coe]
  norm_cast

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul]
  rfl

theorem two_bits : Ideal.ofBits .f32 0x40000000#32 = ((2 : ℝ) : EReal) := by
  simp [Ideal.ofBits, Ideal.ieee, -EReal.coe_mul]
  norm_num

/-- The reference's distance on real numbers. -/
theorem quadR_coe (m : Fin 3 → Fin 3 → ℝ) (h : detR m ≠ 0) (d : Fin 3 → ℝ) :
    Ref.quadR (fun a b => (m a b : EReal)) (fun a => (d a : EReal))
      = ((∑ j : Fin 3, d j * ∑ i : Fin 3, cofR m j i / detR m * d i : ℝ) : EReal) := by
  unfold Ref.quadR
  simp only [cofE_coe, detE_coe, div_coe _ _ h, Fin.sum_univ_three]
  norm_cast

/-- The kernel's exponent, from the upper triangle, is the reference's. -/
theorem quad_same (m : Fin 3 → Fin 3 → ℝ) (h : detR m ≠ 0) (h01 : m 0 1 = m 1 0) (h02 : m 0 2 = m 2 0) (h12 : m 1 2 = m 2 1) (d : Fin 3 → ℝ) :
    quadE (m 0 0) (m 0 1) (m 0 2) (m 1 1) (m 1 2) (m 2 2) (d 0) (d 1) (d 2)
      = Ideal.ofBits .f32 0xBF000000#32 * Ref.quadR (fun a b => (m a b : EReal)) (fun a => (d a : EReal)) := by
  rw [quadR_coe m h d]
  have hd : m 0 0 * (m 1 1 * m 2 2 - m 1 2 * m 1 2) - m 0 1 * (m 0 1 * m 2 2 - m 0 2 * m 1 2) + m 0 2 * (m 0 1 * m 1 2 - m 0 2 * m 1 1) = detR m := by
    unfold detR cofR
    simp only [Fin.isValue, show (0 : Fin 3) + 1 = 1 from rfl, show (0 : Fin 3) + 2 = 2 from rfl, show (1 : Fin 3) + 1 = 2 from rfl, show (1 : Fin 3) + 2 = 0 from rfl,
      show (2 : Fin 3) + 1 = 0 from rfl, show (2 : Fin 3) + 2 = 1 from rfl]
    rw [← h01, ← h02, ← h12]
    ring
  have hr : rdE (m 0 0) (m 0 1) (m 0 2) (m 1 1) (m 1 2) (m 2 2) = ((1 / detR m : ℝ) : EReal) := by
    rw [← div_coe 1 _ h, ← hd]
    unfold rdE
    norm_cast
  unfold quadE
  rw [hr, two_bits]
  refine congrArg (Ideal.ofBits .f32 0xBF000000#32 * ·) ?_
  norm_cast
  simp only [Fin.sum_univ_three]
  unfold cofR
  simp only [Fin.isValue, show (0 : Fin 3) + 1 = 1 from rfl, show (0 : Fin 3) + 2 = 2 from rfl, show (1 : Fin 3) + 1 = 2 from rfl, show (1 : Fin 3) + 2 = 0 from rfl,
    show (2 : Fin 3) + 1 = 0 from rfl, show (2 : Fin 3) + 2 = 1 from rfl]
  rw [← h01, ← h02, ← h12]
  field_simp
  ring

end Cert.Vox

end
-- ==== Proof.Share.lean ====
module

public import proofs.«01_k».proof.Proof.Maha
public import proofs.«01_k».proof.Proof.Span

@[expose] public section

noncomputable section

/-! One Gaussian's share of one voxel: the form both programs are brought to. -/

namespace Cert.Vox

open Cert.KernelIdeal Cert.KernelIdeal.Gen
open Idealize.ShloMosaic Idealize.ShloMosaic.TcCoe

variable (a0 : FVec Ideal S16384x3 .f32) (a1 : FVec Ideal S16384x1 .f32) (a2 : FVec Ideal S16384x3x3 .f32)

/-- From the mean to a voxel's centre. -/
def dispE (n : Fin 16384) (v : Fin 3 → ℕ) (a : Fin 3) : EReal :=
  FloatOps.sitofp (F := Ideal) .f32 (BitVec.ofNat 32 (v a)) * Ideal.ofBits .f32 0x3F000000#32 + (loR a : EReal) + Ideal.ofBits .f32 0x3E800000#32 - a0 (ix2 n a)

/-- Whether a voxel is in a kept Gaussian's box. -/
def InBox (n : Fin 16384) (v : Fin 3 → ℕ) : Prop :=
  kept a0 a1 a2 (ix1 n) = 1#1 ∧ ∀ a, headN a0 a2 n a ≤ v a ∧ v a ≤ lastN a0 a2 n a

/-- What a Gaussian gives a voxel of its box. -/
def giveE (n : Fin 16384) (v : Fin 3 → ℕ) : EReal :=
  a1 (ix2 n 0) * Ideal.exp (Ideal.ofBits .f32 0xBF000000#32 * Ref.quadR (fun i j => a2 (ix3 n i j)) (dispE a0 n v))

open Classical in
/-- What it gives any voxel. -/
def shareE (n : Fin 16384) (v : Fin 3 → ℕ) : EReal := if InBox a0 a1 a2 n v then giveE a0 a1 a2 n v else 0

theorem shareE_in {n : Fin 16384} {v : Fin 3 → ℕ} (h : InBox a0 a1 a2 n v) : shareE a0 a1 a2 n v = giveE a0 a1 a2 n v := if_pos h
theorem shareE_out {n : Fin 16384} {v : Fin 3 → ℕ} (h : ¬ InBox a0 a1 a2 n v) : shareE a0 a1 a2 n v = 0 := if_neg h

end Cert.Vox

end
-- ==== Proof.Scatters.lean ====
module

public import proofs.«01_k».proof.Proof.Gen.KernelIdeal
public import Idealize.ShloMosaic.Lib.Routing.OpsPair
public import Idealize.ShloMosaic.Lib.Pointwise
public import Idealize.ShloMosaic.Lib.WordArith

@[expose] public section

noncomputable section

/-! Accumulating scatters on extended reals, as sums over the updates that land. -/

namespace Cert.Vox

open Idealize.ShloMosaic Idealize.ShloMosaic.TcCoe

theorem foldl_sum {ι : Type} (p : ι → Prop) [DecidablePred p] (g : ι → EReal) : ∀ (L : List ι) (a : EReal),
    L.foldl (fun a n => if p n then a + g n else a) a = a + (L.map fun n => if p n then g n else 0).sum
  | [], a => by simp
  | n :: L, a => by
    rw [List.foldl_cons, foldl_sum p g L, List.map_cons, List.sum_cons]
    by_cases h : p n
    · rw [if_pos h, if_pos h, add_assoc]
    · rw [if_neg h, if_neg h, zero_add]

/-- An accumulating scatter, read at one element: the operand plus every update that lands there. -/
theorem scatter_sum {s si u : Shape} {w : ℕ} (d : ScatterDims s si u) (x : s.Idx → EReal) (idx : IVec si w) (upd : u.Idx → EReal) (ι : s.Idx) :
    Host.scatter d (FloatOps.addf (F := Ideal) (φ := FTy.f32)) x idx upd ι
      = x ι + ∑ j : u.Idx, if d.resultIdx? j idx = some ι then upd j else 0 := by
  rw [Routing.scatter_at]
  refine (foldl_sum (fun n => d.resultIdx? (u.rowMajor.symm n) idx = some ι) (fun n => upd (u.rowMajor.symm n)) _ _).trans ?_
  rw [← Fin.sum_univ_def]
  congr 1
  exact Equiv.sum_comp u.rowMajor.symm (fun j => if d.resultIdx? j idx = some ι then upd j else 0)

open Cert.KernelIdeal Cert.KernelIdeal.Gen in
/-- A tile's row lands `25 T` rows further. -/
theorem lands_tile (idx : IVec S1 32) (b : ℕ) (hb : (idx (ix1 0)).toInt = b) (j : S33x208x512.Idx) (ι : S256x208x512.Idx) :
    scatter_S256x208x512_S1_S33x208x512_012_n_0_0.resultIdx? j idx = some ι
      ↔ b + (j 0).val = (ι 0).val ∧ (j 1).val = (ι 1).val ∧ (j 2).val = (ι 2).val := by
  rw [Routing.resultIdx?_eq_some]
  have hw : ∀ a : Fin 3, scatter_S256x208x512_S1_S33x208x512_012_n_0_0.window j a = (j a).val := by
    intro a
    fin_cases a <;> rfl
  have hs0 : scatter_S256x208x512_S1_S33x208x512_012_n_0_0.start j idx (0 : Fin 3) = b := by
    rw [← hb]
    unfold ScatterDims.start
    rw [dif_pos (by decide)]
    congr 2
    funext a
    obtain rfl : a = (0 : Fin 1) := Subsingleton.elim (α := Fin 1) _ _
    exact Subsingleton.elim (α := Fin 1) _ _
  have hs : ∀ a : Fin 3, a ≠ 0 → scatter_S256x208x512_S1_S33x208x512_012_n_0_0.start j idx a = 0 := by
    intro a ha
    unfold ScatterDims.start
    rw [dif_neg]
    revert a; decide
  constructor
  · intro h
    have h0 := h (0 : Fin 3)
    have h1 := h (1 : Fin 3)
    have h2 := h (2 : Fin 3)
    rw [hw, hs0] at h0
    rw [hw, hs _ (by decide)] at h1 h2
    omega
  · rintro ⟨h0, h1, h2⟩ a
    fin_cases a
    · refine (congrArg₂ (fun u (v : ℕ) => u + (v : ℤ)) hs0 (hw 0)).trans ?_
      exact_mod_cast h0
    · refine (congrArg₂ (fun u (v : ℕ) => u + (v : ℤ)) (hs 1 (by decide)) (hw 1)).trans ?_
      rw [zero_add]; exact_mod_cast h1
    · refine (congrArg₂ (fun u (v : ℕ) => u + (v : ℤ)) (hs 2 (by decide)) (hw 2)).trans ?_
      rw [zero_add]; exact_mod_cast h2

open Cert.KernelIdeal Cert.KernelIdeal.Gen in
theorem scatter_tile (x : S256x208x512.Idx → EReal) (idx : IVec S1 32) (b : ℕ) (hb : (idx (ix1 0)).toInt = b) (upd : S33x208x512.Idx → EReal)
    (X : Fin 256) (y : Fin 208) (l : Fin 512) :
    Host.scatter scatter_S256x208x512_S1_S33x208x512_012_n_0_0 (FloatOps.addf (F := Ideal) (φ := FTy.f32)) x idx upd (ix3 X y l)
      = x (ix3 X y l) + if h : b ≤ X.val ∧ X.val < b + 33 then upd (ix3 ⟨X.val - b, by omega⟩ y l) else 0 := by
  rw [scatter_sum]
  congr 1
  simp only [lands_tile idx b hb]
  by_cases h : b ≤ X.val ∧ X.val < b + 33
  · rw [dif_pos h, Finset.sum_eq_single (ix3 ⟨X.val - b, by omega⟩ y l)]
    · rw [if_pos]
      exact ⟨by show b + (X.val - b) = X.val; omega, rfl, rfl⟩
    · intro j _ hj
      rw [if_neg]
      rintro ⟨h0, h1, h2⟩
      apply hj
      funext a
      apply Fin.ext
      fin_cases a
      · show (j 0).val = X.val - b
        have : b + (j 0).val = X.val := h0
        omega
      · exact h1
      · exact h2
    · intro h'; exact absurd (Finset.mem_univ _) h'
  · rw [dif_neg h]
    refine Finset.sum_eq_zero fun j _ => ?_
    rw [if_neg]
    rintro ⟨h0, -, -⟩
    have : b + (j 0).val = X.val := h0
    have hj : (j 0).val < 33 := (j 0).isLt
    omega

end Cert.Vox
end
-- ==== Proof.Trips.lean ====
module

public import proofs.«01_k».proof.Proof.Window
public import proofs.«01_k».proof.Proof.Words
public import Idealize.ShloMosaic.Lib.Pipeline.ValueKit
public import Idealize.ShloMosaic.Lib.Pipeline.Covers

@[expose] public section

noncomputable section

/-! What the trips of one point add to the output block, on extended reals. -/

namespace Cert.Vox

open Cert.KernelIdeal Cert.KernelIdeal.Gen

open Idealize.ShloMosaic Idealize.ShloMosaic.TcCoe

/-- A window's value at naturals, zero outside. -/
def atN (W : S16x8x16x512.Idx → EReal) (k : Fin 16) (i j : ℕ) (l : Fin 512) : EReal :=
  if h : i < 8 ∧ j < 16 then W (ix4 k ⟨i, h.1⟩ ⟨j, h.2⟩ l) else 0

/-- Whether a window starting at `(x, 8 y)` meets row `(r, q)` of tile `T`. -/
def Meets (T x y r q : ℕ) : Prop :=
  25 * T ≤ x ∧ (x < 25 * (T + 1) ∨ T = 7) ∧ x ≤ r + 25 * T ∧ r + 25 * T < x + 8 ∧ 8 * y ≤ q ∧ q < 8 * y + 16

instance (T x y r q : ℕ) : Decidable (Meets T x y r q) := by unfold Meets; infer_instance

theorem pay2_apply (u v : S1x8x16x512.Idx → EReal) (a : Fin 8) (b : Fin 16) (l : Fin 512) :
    k0_pay2 (F := Ideal) u v (ix4 0 a b l) = u (ix4 0 a b l) + v (ix4 0 a b l) := by
  unfold k0_pay2
  pointwise

theorem off3_eq (k : Fin k0_t1_loop.trips) : k0_off3 k = ![k.val, 0, 0, 0] := by
  have hk : k.val < 16 := k.isLt
  unfold k0_off3
  simp only [Scalar.indexCast, iv_val, BitVec.toNat_ofNat]
  rw [Nat.mod_eq_of_lt (by omega)]

theorem tripV_at (i : grid0.Coords) (x y w : BitVec 32) (W : S16x8x16x512.Idx → EReal) (k : Fin k0_t1_loop.trips)
    (X : S1x33x208x512.Idx → EReal) (hx : x.toNat < 2 ^ 31) (hw : w = 1#32 → x.toNat < 200 ∧ y.toNat ≤ 24)
    (r : Fin 33) (q : Fin 208) (l : Fin 512) :
    tripV (F := Ideal) i x y w W k X (ix4 0 r q l)
      = X (ix4 0 r q l) + if w = 1#32 ∧ Meets (i 0).val x.toNat y.toNat r.val q.val then
          atN W k (r.val + 25 * (i 0).val - x.toNat) (q.val - 8 * y.toNat) l else 0 := by
  have hchk := chk_of i x y w hw hx
  have h0 : (i 0).val < 8 := (i 0).isLt
  unfold tripV
  by_cases h : k0_cond2 i x w = 1#1
  · rw [dif_pos ⟨h, hchk⟩]
    obtain ⟨h1, h2, h3⟩ := (cond2_iff i x w hx).1 h
    obtain ⟨hx2, hy2⟩ := hw h1
    have ho := off2_eq i x y hx h2 hy2
    have hin : (∀ a, k0_off2 i x y a ≤ ((ix4 0 r q l : S1x33x208x512.Idx) a).val ∧ ((ix4 0 r q l : S1x33x208x512.Idx) a).val < k0_off2 i x y a + S1x8x16x512.size a)
        ↔ Meets (i 0).val x.toNat y.toNat r.val q.val := by
      rw [ho]
      constructor
      · intro g
        have g1 : x.toNat - 25 * (i 0).val ≤ r.val ∧ r.val < x.toNat - 25 * (i 0).val + 8 := g 1
        have g2 : 8 * y.toNat ≤ q.val ∧ q.val < 8 * y.toNat + 16 := g 2
        unfold Meets
        omega
      · intro g a
        unfold Meets at g
        fin_cases a
        · exact ⟨Nat.le_refl 0, by show 0 < 0 + 1; omega⟩
        · show x.toNat - 25 * (i 0).val ≤ r.val ∧ r.val < x.toNat - 25 * (i 0).val + 8; omega
        · show 8 * y.toNat ≤ q.val ∧ q.val < 8 * y.toNat + 16; omega
        · show 0 ≤ l.val ∧ l.val < 0 + 512; omega
    by_cases hy : Meets (i 0).val x.toNat y.toNat r.val q.val
    · show (if hy : _ then _ else _) = _
      rw [dif_pos (hin.2 hy), if_pos ⟨h1, hy⟩]
      have hm := hy
      unfold Meets at hm
      have e : Rect.unitLocal (s := S1x33x208x512) (off := k0_off2 i x y) (size := S1x8x16x512.size) (ix4 0 r q l) (hin.2 hy)
          = (ix4 0 ⟨r.val + 25 * (i 0).val - x.toNat, by omega⟩ ⟨q.val - 8 * y.toNat, by omega⟩ l : S1x8x16x512.Idx) := by
        funext a
        apply Fin.ext
        have e1 : ∀ a, (Rect.unitLocal (s := S1x33x208x512) (off := k0_off2 i x y) (size := S1x8x16x512.size) (ix4 0 r q l) (hin.2 hy) a).val
            = ((ix4 0 r q l : S1x33x208x512.Idx) a).val - k0_off2 i x y a := fun a => rfl
        rw [e1, ho]
        fin_cases a
        · rfl
        · show r.val - (x.toNat - 25 * (i 0).val) = r.val + 25 * (i 0).val - x.toNat; omega
        · rfl
        · rfl
      refine (congrArg _ e).trans ?_
      rw [pay2_apply]
      congr 1
      · unfold View.ld
        congr 1
        funext a
        apply Fin.ext
        refine (congrArg (fun u => u + 1 * _) (congrFun ho a)).trans ?_
        fin_cases a
        · rfl
        · show (x.toNat - 25 * (i 0).val) + 1 * (r.val + 25 * (i 0).val - x.toNat) = r.val; omega
        · show 8 * y.toNat + 1 * (q.val - 8 * y.toNat) = q.val; omega
        · show 0 + 1 * l.val = l.val; omega
      · unfold atN
        rw [dif_pos (by omega)]
        unfold View.ld
        congr 1
        funext a
        apply Fin.ext
        refine (congrArg (fun u => u + 1 * _) (congrFun (off3_eq k) a)).trans ?_
        fin_cases a
        · show k.val + 1 * 0 = k.val; omega
        · show 0 + 1 * (r.val + 25 * (i 0).val - x.toNat) = _; simp
        · show 0 + 1 * (q.val - 8 * y.toNat) = _; simp
        · show 0 + 1 * l.val = l.val; omega
    · show (if hy : _ then _ else _) = _
      rw [dif_neg (fun g => hy (hin.1 g)), if_neg (fun g => hy g.2), add_zero]
  · rw [dif_neg (fun g => h g.1), if_neg ?_, add_zero]
    rintro ⟨h1, h2, h3, -⟩
    exact h ((cond2_iff i x w hx).2 ⟨h1, h2, h3⟩)

/-- Sixteen trips add their windows in order. -/
theorem accV_at (i : grid0.Coords) (x y w : Fin k0_t1_loop.trips → BitVec 32) (W : S16x8x16x512.Idx → EReal)
    (X : S1x33x208x512.Idx → EReal) (hx : ∀ k, (x k).toNat < 2 ^ 31) (hw : ∀ k, w k = 1#32 → (x k).toNat < 200 ∧ (y k).toNat ≤ 24)
    (r : Fin 33) (q : Fin 208) (l : Fin 512) (f : ℕ → EReal)
    (hf : ∀ k : Fin k0_t1_loop.trips, f k.val = if w k = 1#32 ∧ Meets (i 0).val (x k).toNat (y k).toNat r.val q.val then
          atN W k (r.val + 25 * (i 0).val - (x k).toNat) (q.val - 8 * (y k).toNat) l else 0) :
    ∀ n ≤ 16, accV (F := Ideal) i x y w W X n (ix4 0 r q l) = X (ix4 0 r q l) + ∑ k ∈ Finset.range n, f k
  | 0, _ => by rw [Finset.range_zero, Finset.sum_empty, add_zero]; rfl
  | n + 1, hn => by
    have hn' : n < k0_t1_loop.trips := hn
    rw [accV, dif_pos hn', tripV_at i _ _ _ W ⟨n, hn'⟩ _ (hx _) (hw _), accV_at i x y w W X hx hw r q l f hf n (by omega),
      Finset.sum_range_succ, ← add_assoc, ← hf ⟨n, hn'⟩]

end Cert.Vox
end
-- ==== Proof.Tile.lean ====
module

public import proofs.«01_k».proof.Proof.Trips

@[expose] public section

noncomputable section

/-! The tiles the kernel writes: at each row, the sum of the windows that meet it. -/

namespace Cert.Vox

open Cert.KernelIdeal Cert.KernelIdeal.Gen

open Idealize.ShloMosaic Idealize.ShloMosaic.TcCoe

/-- The first voxel of a Gaussian's window along an axis. -/
def firstN (a0 : FVec Ideal S16384x3 .f32) (a2 : FVec Ideal S16384x3x3 .f32) (n : Fin 16384) (a : Fin 3) : ℕ := (start a0 a2 (ix2 n a)).toNat

def startE (a0 : FVec Ideal S16384x3 .f32) (a2 : FVec Ideal S16384x3x3 .f32) (n : Fin 16384) (a : Fin 3) : EReal :=
  FloatOps.sitofp (F := Ideal) .f32 (start a0 a2 (ix2 n a))
def spanE (a0 : FVec Ideal S16384x3 .f32) (a2 : FVec Ideal S16384x3x3 .f32) (n : Fin 16384) (a : Fin 3) : EReal :=
  FloatOps.sitofp (F := Ideal) .f32 (subi (stop a0 a2) (start a0 a2) (ix2 n a))

/-- A Gaussian's share of a voxel of its window, as the kernel computes it. -/
def partE (a0 : FVec Ideal S16384x3 .f32) (a1 : FVec Ideal S16384x1 .f32) (a2 : FVec Ideal S16384x3x3 .f32) (n : Fin 16384) (i j z : ℕ) : EReal :=
  a1 (ix2 n 0) * Ideal.exp (quadE (a2 (ix3 n 0 0)) (a2 (ix3 n 0 1)) (a2 (ix3 n 0 2)) (a2 (ix3 n 1 1)) (a2 (ix3 n 1 2)) (a2 (ix3 n 2 2))
      (offXY (startE a0 a2 n 0) (nE i) (a0 (ix2 n 0))) (offXY (alignE (startE a0 a2 n 1)) (nE j) (a0 (ix2 n 1))) (offZ (nE z) (a0 (ix2 n 2))))
    * inE (nE i) (nE j) (nE z) (startE a0 a2 n 1) (startE a0 a2 n 2) (spanE a0 a2 n 0) (spanE a0 a2 n 1) (spanE a0 a2 n 2)

/-- What a Gaussian adds to a row of a tile. -/
def addE (a0 : FVec Ideal S16384x3 .f32) (a1 : FVec Ideal S16384x1 .f32) (a2 : FVec Ideal S16384x3x3 .f32) (a3 : FVec Ideal S16384x16 .f32)
    (T r q : ℕ) (l : Fin 512) (n : Fin 16384) : EReal :=
  if kept a0 a1 a2 (ix1 n) = 1#1 ∧ Meets T (firstN a0 a2 n 0) (firstN a0 a2 n 1 / 8) r q then
    partE a0 a1 a2 n (r + 25 * T - firstN a0 a2 n 0) (q - 8 * (firstN a0 a2 n 1 / 8)) (lev l) * featE (fun f => a3 (ix2 n f)) l else 0

section Blocks
variable (V : Dev nD → Valuation τ sig (Elt Ideal))

/-- A row of a point's block is a row of the array. -/
theorem row_emb {N : ℕ} (i : grid0.Coords) (k : Fin 16) (a : Fin N) (x : (⟨2, ![16384, N]⟩ : Shape).Idx)
    (h0 : (x 0).val = (BitVec.ofNat 32 (i 1).val).toNat * 16 + 1 * k.val) (h1 : (x 1).val = 0 * N + 1 * a.val) :
    x = ix2 (gid i k) a := by
  funext b
  apply Fin.ext
  fin_cases b
  · refine h0.trans ?_
    rw [index_in]
    show (i 1).val * 16 + 1 * k.val = 16 * (i 1).val + k.val
    omega
  · refine h1.trans ?_
    show 0 * N + 1 * a.val = a.val
    omega

theorem blkIn_0 (c : Dev nD) (t : Fin grid0.N) (k : Fin 16) (a : Fin 3) :
    blkIn V c 0 t (ix2 k a) = V c (Proc.devRef .tc main_arg0) (ix2 (gid (grid0.coords t) k) a) := by
  unfold blkIn arr
  blk_simp
  congr 1
  exact row_emb (grid0.coords t) k a _ rfl rfl
theorem blkIn_1 (c : Dev nD) (t : Fin grid0.N) (k : Fin 16) (a : Fin 1) :
    blkIn V c 1 t (ix2 k a) = V c (Proc.devRef .tc main_arg1) (ix2 (gid (grid0.coords t) k) a) := by
  unfold blkIn arr
  blk_simp
  congr 1
  exact row_emb (grid0.coords t) k a _ rfl rfl
theorem blkIn_2 (c : Dev nD) (t : Fin grid0.N) (k : Fin 16) (a : Fin 9) :
    blkIn V c 2 t (ix2 k a) = V c (Proc.devRef .tc main_v60) (ix2 (gid (grid0.coords t) k) a) := by
  unfold blkIn arr
  blk_simp
  congr 1
  exact row_emb (grid0.coords t) k a _ rfl rfl
theorem blkIn_3 (c : Dev nD) (t : Fin grid0.N) (k : Fin 16) (a : Fin 16) :
    blkIn V c 3 t (ix2 k a) = V c (Proc.devRef .tc main_arg3) (ix2 (gid (grid0.coords t) k) a) := by
  unfold blkIn arr
  blk_simp
  congr 1
  exact row_emb (grid0.coords t) k a _ rfl rfl
theorem blkIn_4 (c : Dev nD) (t : Fin grid0.N) (k : Fin 16) (a : Fin 3) :
    blkIn V c 4 t (ix2 k a) = V c (Proc.devRef .tc main_v59) (ix2 (gid (grid0.coords t) k) a) := by
  unfold blkIn arr
  blk_simp
  congr 1
  exact row_emb (grid0.coords t) k a _ rfl rfl
theorem blkIn_5 (c : Dev nD) (t : Fin grid0.N) (k : Fin 16) (a : Fin 3) :
    blkIn V c 5 t (ix2 k a) = V c (Proc.devRef .tc main_v52) (ix2 (gid (grid0.coords t) k) a) := by
  unfold blkIn arr
  blk_simp
  congr 1
  exact row_emb (grid0.coords t) k a _ rfl rfl
end Blocks

section Run
variable (m : (ℓ : Loc nD τ sig) → Buf (Elt Ideal) ℓ) (c : Dev nD)

/-- One point's windows at naturals. -/
theorem atN_ws (t : Fin grid0.N) (k : Fin 16) (i j : ℕ) (hi : i < 8) (hj : j < 16) (l : Fin 512) :
    atN (ws (F := Ideal) (blkIn (V₀ m) c 0 t) (blkIn (V₀ m) c 1 t) (blkIn (V₀ m) c 2 t) (blkIn (V₀ m) c 3 t) (blkIn (V₀ m) c 4 t) (blkIn (V₀ m) c 5 t)) k i j l
      = partE (A0 m c) (A1 m c) (A2 m c) (gid (grid0.coords t) k) i j (lev l) * featE (fun f => A3 m c (ix2 (gid (grid0.coords t) k) f)) l := by
  unfold atN
  rw [dif_pos ⟨hi, hj⟩, ws_apply]
  have cov : ∀ p q : Fin 3, blkIn (V₀ m) c 2 t (ix2 k ⟨3 * p.val + q.val, by omega⟩) = A2 m c (ix3 (gid (grid0.coords t) k) p q) := by
    intro p q
    rw [blkIn_2, V₀_v60]
    pointwise
  have e0 : ∀ a : Fin 3, blkIn (V₀ m) c 0 t (ix2 k a) = A0 m c (ix2 (gid (grid0.coords t) k) a) := fun a => by rw [blkIn_0, V₀_arg0]
  have e1 : ∀ a : Fin 1, blkIn (V₀ m) c 1 t (ix2 k a) = A1 m c (ix2 (gid (grid0.coords t) k) a) := fun a => by rw [blkIn_1, V₀_arg1]
  have e3 : ∀ a : Fin 16, blkIn (V₀ m) c 3 t (ix2 k a) = A3 m c (ix2 (gid (grid0.coords t) k) a) := fun a => by rw [blkIn_3, V₀_arg3]
  have e4 : ∀ a : Fin 3, blkIn (V₀ m) c 4 t (ix2 k a) = startE (A0 m c) (A2 m c) (gid (grid0.coords t) k) a := fun a => by
    rw [blkIn_4, V₀_v59]; rfl
  have e5 : ∀ a : Fin 3, blkIn (V₀ m) c 5 t (ix2 k a) = spanE (A0 m c) (A2 m c) (gid (grid0.coords t) k) a := fun a => by
    rw [blkIn_5, V₀_v52]; rfl
  unfold partE
  simp only [e0, e1, e3, e4, e5]
  rw [← cov 0 0, ← cov 0 1, ← cov 0 2, ← cov 1 1, ← cov 1 2, ← cov 2 2]
  rfl

/-- The same over all naturals, zero past the last Gaussian. -/
def addN (T r q : ℕ) (l : Fin 512) (u : ℕ) : EReal :=
  if h : u < 16384 then addE (A0 m 0) (A1 m 0) (A2 m 0) (A3 m 0) T r q l ⟨u, h⟩ else 0

theorem pointV_at (t : Fin grid0.N) (X : S1x33x208x512.Idx → EReal) (r : Fin 33) (q : Fin 208) (l : Fin 512) :
    pointV (V₀ m) 0 t X (ix4 0 r q l)
      = startV (F := Ideal) (grid0.coords t) X (ix4 0 r q l) + ∑ k ∈ Finset.range 16, addN m (t.val / 1024) r.val q.val l (16 * (t.val % 1024) + k) := by
  have hok := inGrid_ideal (A0 m 0) (A1 m 0) (A2 m 0)
  have hs : ∀ k : Fin k0_t1_loop.trips, wordM (V₀ m) (grid0.coords t) k = 1#32 ↔ kept (A0 m 0) (A1 m 0) (A2 m 0) (ix1 (gid (grid0.coords t) k)) = 1#1 := by
    intro k
    rw [wordM_eq]
    generalize kept (A0 m 0) (A1 m 0) (A2 m 0) (ix1 (gid (grid0.coords t) k)) = b
    revert b; decide
  have h1 : ∀ k : Fin k0_t1_loop.trips, (wordX (V₀ m) (grid0.coords t) k).toNat < 2 ^ 31 := fun k => by rw [wordX_eq]; exact start_lt _ _ _
  have h2 : ∀ k : Fin k0_t1_loop.trips, wordM (V₀ m) (grid0.coords t) k = 1#32 →
      (wordX (V₀ m) (grid0.coords t) k).toNat < 200 ∧ (wordY (V₀ m) (grid0.coords t) k).toNat ≤ 24 := by
    intro k hk
    obtain ⟨g0, g1⟩ := hok _ ((hs k).1 hk)
    rw [wordX_eq, wordY_eq]
    exact ⟨g0, by omega⟩
  unfold pointV bodyV
  refine accV_at _ _ _ _ _ _ h1 h2 r q l _ ?_ 16 (le_refl _)
  intro k
  have hk : k.val < 16 := k.isLt
  have hu : 16 * (t.val % 1024) + k.val < 16384 := by omega
  have hg : (⟨16 * (t.val % 1024) + k.val, hu⟩ : Fin 16384) = gid (grid0.coords t) k := by
    apply Fin.ext
    show _ = 16 * (grid0.coords t 1).val + k.val
    rw [coords_1]
  unfold addN
  rw [dif_pos hu, hg]
  unfold addE
  simp only [hs k]
  rw [coords_0, wordX_eq, wordY_eq]
  by_cases hc : kept (A0 m 0) (A1 m 0) (A2 m 0) (ix1 (gid (grid0.coords t) k)) = 1#1
      ∧ Meets (t.val / 1024) (firstN (A0 m 0) (A2 m 0) (gid (grid0.coords t) k) 0) (firstN (A0 m 0) (A2 m 0) (gid (grid0.coords t) k) 1 / 8) r.val q.val
  · have hm := hc.2
    unfold Meets at hm
    rw [if_pos hc]
    refine Eq.trans ?_ (if_pos hc).symm
    exact (atN_ws m 0 t k _ _ (by unfold firstN at *; omega) (by unfold firstN at *; omega) l).symm
  · rw [if_neg hc]
    exact (if_neg hc).symm

theorem range_points (f : ℕ → EReal) : ∑ b ∈ Finset.range 1024, ∑ k ∈ Finset.range 16, f (16 * b + k) = ∑ u ∈ Finset.range 16384, f u := by
  rw [show 16384 = 1024 * 16 from rfl]
  generalize 1024 = N
  induction N with
  | zero => simp
  | succ N ih =>
    have e : (N + 1) * 16 = N * 16 + 16 := by omega
    rw [Finset.sum_range_succ, ih, e, Finset.sum_range_add, Nat.mul_comm N 16]

theorem outV_at (t : Fin grid0.N) (ht : t.val % 1024 = 1023) (r : Fin 33) (q : Fin 208) (l : Fin 512) :
    outV (V₀ m) 0 t.val t.isLt (ix4 0 r q l)
      = ∑ n : Fin 16384, addE (A0 m 0) (A1 m 0) (A2 m 0) (A3 m 0) (t.val / 1024) r.val q.val l n := by
  have key := Pipeline.eq_sum_of_reset_step_apply_of_mod (ι := Fin 33 × Fin 208 × Fin 512) (N := grid0.N)
    (fun n h x => outV (V₀ m) 0 n h (ix4 0 x.1 x.2.1 x.2.2)) 1024 (fun _ => 0)
    (fun n x => ∑ k ∈ Finset.range 16, addN m (n / 1024) x.1.val x.2.1.val x.2.2 (16 * (n % 1024) + k))
    (fun t h0 x => by
      show outV (V₀ m) 0 t.val t.isLt _ = _
      have hc : k0_cond1 (grid0.coords t) = 1#1 := (cond1_iff _).2 (by rw [coords_1, h0])
      have : outV (V₀ m) 0 t.val t.isLt = pointV (V₀ m) 0 t (fun _ => 0) := by
        by_cases hz : t.val = 0
        · obtain ⟨n, hn⟩ := t
          obtain rfl : n = 0 := hz
          exact pointV_reset (V₀ m) 0 _ (by rw [coords_1]; rfl) _ _
        · rw [outV_succ (V₀ m) 0 t hz (Nat.lt_of_le_of_lt (Nat.sub_le _ _) t.isLt)]
          exact pointV_reset (V₀ m) 0 t (by rw [coords_1, h0]) _ _
      rw [this, pointV_at]
      unfold startV
      rw [if_pos hc]
      congr 1
      unfold k0_pay3
      pointwise)
    (fun t h0 x => by
      show outV (V₀ m) 0 t.val t.isLt _ = _
      have hc : ¬ k0_cond1 (grid0.coords t) = 1#1 := fun h => h0 (by rw [← coords_1]; exact (cond1_iff _).1 h)
      rw [outV_succ (V₀ m) 0 t (fun h => h0 (by rw [h])) (Nat.lt_of_le_of_lt (Nat.sub_le _ _) t.isLt), pointV_at]
      unfold startV
      rw [if_neg hc])
    t ht (r, q, l)
  have ht' : t.val < 8192 := lt_of_lt_of_eq t.isLt N_0
  refine key.trans ?_
  rw [zero_add]
  have e : ∀ b ∈ Finset.range 1024, (∑ k ∈ Finset.range 16, addN m ((1024 * (t.val / 1024) + b) / 1024) r.val q.val l (16 * ((1024 * (t.val / 1024) + b) % 1024) + k))
      = ∑ k ∈ Finset.range 16, addN m (t.val / 1024) r.val q.val l (16 * b + k) := by
    intro b hb
    have hb' := Finset.mem_range.1 hb
    rw [show (1024 * (t.val / 1024) + b) / 1024 = t.val / 1024 by omega, show (1024 * (t.val / 1024) + b) % 1024 = b by omega]
  refine (Finset.sum_congr rfl e).trans ?_
  rw [range_points (addN m (t.val / 1024) r.val q.val l), Finset.sum_range]
  refine Finset.sum_congr rfl fun n _ => ?_
  unfold addN
  rw [dif_pos n.isLt]

/-- The whole written array. -/
def tiles : S8x33x208x512.Idx → EReal := fun x =>
  ∑ n : Fin 16384, addE (A0 m 0) (A1 m 0) (A2 m 0) (A3 m 0) (x 0).val (x 1).val (x 2).val (x 3) n

theorem arrAt_out : (dats (V₀ m) 0).arrAt (6 : Fin 7) grid0.N = tiles m := by
  have hb : ∀ β : (a : Fin ((cfg0 (adm (V₀ m))).win (6 : Fin 7)).shape.rank) → Fin (((cfg0 (adm (V₀ m))).win (6 : Fin 7)).nblk a), (β (0 : Fin 4)).val < 8 :=
    fun β => lt_of_lt_of_eq (β (0 : Fin 4)).isLt (show (8 + 1 - 1) / 1 = 8 from rfl)
  refine (dats (V₀ m) 0).arrAt_eq_of_covers (6 : Fin 7) (tiles m)
    (((cfg0 (adm (V₀ m))).win (6 : Fin 7)).covers_of_indexMap_surj rfl (fun a => (by decide : ∀ a : Fin 4, 0 < (![1, 33, 208, 512] : Fin 4 → ℕ) a) a)
      fun β => ⟨grid0.coords ⟨1024 * (β (0 : Fin 4)).val, by rw [N_0]; have := hb β; omega⟩, fun a => ?_⟩) fun t hf y => ?_
  · have := hb β
    refine (?_ : ![(BitVec.ofNat 32 (grid0.coords ⟨1024 * (β (0 : Fin 4)).val, _⟩ 0).val).toNat, 0, 0, 0] a = _)
    rw [index_out, coords_0]
    fin_cases a
    · show 1024 * (β (0 : Fin 4)).val / 1024 = (β (0 : Fin 4)).val
      omega
    · have h : (β (1 : Fin 4)).val < 1 := lt_of_lt_of_eq (β (1 : Fin 4)).isLt (show (33 + 33 - 1) / 33 = 1 by decide)
      show 0 = (β (1 : Fin 4)).val
      omega
    · have h : (β (2 : Fin 4)).val < 1 := lt_of_lt_of_eq (β (2 : Fin 4)).isLt (show (208 + 208 - 1) / 208 = 1 by decide)
      show 0 = (β (2 : Fin 4)).val
      omega
    · have h : (β (3 : Fin 4)).val < 1 := lt_of_lt_of_eq (β (3 : Fin 4)).isLt (show (512 + 512 - 1) / 512 = 1 by decide)
      show 0 = (β (3 : Fin 4)).val
      omega
  · have hm : t.val % 1024 = 1023 := by rw [flush_6] at hf; exact of_decide_eq_true hf
    have ht' : t.val < 8192 := lt_of_lt_of_eq t.isLt N_0
    have key : ∀ (u : S1x33x208x512.Idx) (x : S8x33x208x512.Idx), (x 0).val = t.val / 1024 → (x 1).val = (u 1).val → (x 2).val = (u 2).val →
        (x 3).val = (u 3).val → outV (V₀ m) 0 t.val t.isLt u = tiles m x := by
      intro u x h0 h1 h2 h3
      have hu : u = ix4 0 (u 1) (u 2) (u 3) := by
        funext a
        fin_cases a
        · exact Subsingleton.elim (α := Fin 1) _ _
        · rfl
        · rfl
        · rfl
      refine (congrArg _ hu).trans ((outV_at m t hm (u 1) (u 2) (u 3)).trans ?_)
      unfold tiles
      rw [h0, h1, h2, show x 3 = u 3 from Fin.ext h3]
    blk_simp
    refine key y _ ?_ ?_ ?_ ?_
    · show (BitVec.ofNat 32 (grid0.coords t 0).val).toNat * 1 + 1 * (y (0 : Fin 4)).val = _
      have h : (y (0 : Fin 4)).val < 1 := (y (0 : Fin 4)).isLt
      rw [index_out, coords_0]
      omega
    · show 0 * 33 + 1 * (y (1 : Fin 4)).val = _
      omega
    · show 0 * 208 + 1 * (y (2 : Fin 4)).val = _
      omega
    · show 0 * 512 + 1 * (y (3 : Fin 4)).val = _
      omega
end Run

end Cert.Vox
end
-- ==== Proof.Suffix.lean ====
module

public import proofs.«01_k».proof.Proof.Scatters
public import proofs.«01_k».proof.Proof.Tile

@[expose] public section

noncomputable section

/-! The host's lines after the region: the tiles placed over each other, then the two results. -/

namespace Cert.Vox

open Cert.KernelIdeal Cert.KernelIdeal.Gen

open Idealize.ShloMosaic Idealize.ShloMosaic.TcCoe
open Idealize.ShloMosaic.StableHlo

/-- One tile added at its planes. -/
def place (o : S8x33x208x512.Idx → EReal) (off : Fin 4 → ℕ) (h : S8x33x208x512.Slices off S1x33x208x512) (b : BitVec 32)
    (x : S256x208x512.Idx → EReal) : S256x208x512.Idx → EReal :=
  Host.scatter scatter_S256x208x512_S1_S33x208x512_012_n_0_0 (FloatOps.addf (F := Ideal) (φ := FTy.f32)) x
    (broadcastInDim S1 ![] bcast_S_S1 (constantI S_ 32 b))
    (shapeCast S33x208x512 (extractStridedSlice S1x33x208x512 off o h) shapeCasts_S1x33x208x512_S33x208x512)

/-- All the tiles. -/
def placed (o : S8x33x208x512.Idx → EReal) : S256x208x512.Idx → EReal :=
  place o ![7, 0, 0, 0] slices_S8x33x208x512_S1x33x208x512_7_0_0_0 175#32 <|
  place o ![6, 0, 0, 0] slices_S8x33x208x512_S1x33x208x512_6_0_0_0 150#32 <|
  place o ![5, 0, 0, 0] slices_S8x33x208x512_S1x33x208x512_5_0_0_0 125#32 <|
  place o ![4, 0, 0, 0] slices_S8x33x208x512_S1x33x208x512_4_0_0_0 100#32 <|
  place o ![3, 0, 0, 0] slices_S8x33x208x512_S1x33x208x512_3_0_0_0 75#32 <|
  place o ![2, 0, 0, 0] slices_S8x33x208x512_S1x33x208x512_2_0_0_0 50#32 <|
  place o ![1, 0, 0, 0] slices_S8x33x208x512_S1x33x208x512_1_0_0_0 25#32 <|
  place o ![0, 0, 0, 0] slices_S8x33x208x512_S1x33x208x512_0_0_0_0 0#32 <|
  broadcastInDim S256x208x512 ![] bcast_S_S256x208x512 (constant (F := Ideal) S_ .f32 0x00000000#32)

/-- A tile's row at a plane of the grid, zero where the tile does not reach. -/
def rowAt (o : S8x33x208x512.Idx → EReal) (T : Fin 8) (X : ℕ) (y : Fin 208) (l : Fin 512) : EReal :=
  if h : 25 * T.val ≤ X ∧ X < 25 * T.val + 33 then o (ix4 T ⟨X - 25 * T.val, by omega⟩ y l) else 0

theorem place_at (o : S8x33x208x512.Idx → EReal) (t : ℕ) (ht : t < 8) (h : S8x33x208x512.Slices ![t, 0, 0, 0] S1x33x208x512) (b : BitVec 32)
    (hb : b.toInt = ((25 * t : ℕ) : ℤ)) (x : S256x208x512.Idx → EReal) (X : Fin 256) (y : Fin 208) (l : Fin 512) :
    place o ![t, 0, 0, 0] h b x (ix3 X y l) = x (ix3 X y l) + rowAt o ⟨t, ht⟩ X.val y l := by
  unfold place
  rw [scatter_tile _ _ (25 * t) hb]
  congr 1
  unfold rowAt
  by_cases hc : 25 * t ≤ X.val ∧ X.val < 25 * t + 33
  · rw [dif_pos hc, dif_pos hc]
    pointwise
  · rw [dif_neg hc, dif_neg hc]

theorem placed_at (o : S8x33x208x512.Idx → EReal) (X : Fin 256) (y : Fin 208) (l : Fin 512) :
    placed o (ix3 X y l) = ∑ T : Fin 8, rowAt o T X.val y l := by
  unfold placed
  rw [place_at o 7 (by omega) _ _ rfl, place_at o 6 (by omega) _ _ rfl, place_at o 5 (by omega) _ _ rfl, place_at o 4 (by omega) _ _ rfl,
    place_at o 3 (by omega) _ _ rfl, place_at o 2 (by omega) _ _ rfl, place_at o 1 (by omega) _ _ rfl, place_at o 0 (by omega) _ _ rfl,
    Fin.sum_univ_eight]
  have z : broadcastInDim S256x208x512 ![] bcast_S_S256x208x512 (constant (F := Ideal) S_ .f32 0x00000000#32) (ix3 X y l) = 0 := by
    pointwise
  rw [z, zero_add]
  rfl

def densityOf (f : S256x208x512.Idx → EReal) : S200x200x16x1.Idx → EReal :=
  broadcastInDim S200x200x16x1 ![0, 1, 2] bcast_S200x200x16_S200x200x16x1_0_1_2
    (extractStridedSlice S200x200x16 ![0, 0, 384] f slices_S256x208x512_S200x200x16_0_0_384)

def featuresOf (f : S256x208x512.Idx → EReal) : S200x200x16x16.Idx → EReal :=
  Host.divf (F := Ideal) (φ := .f32)
    (shapeCast S200x200x16x16 (extractStridedSlice S200x200x256 ![0, 0, 0] f slices_S256x208x512_S200x200x256_0_0_0) shapeCasts_S200x200x256_S200x200x16x16)
    (broadcastInDim S200x200x16x16 ![0, 1, 2, 3] bcast_S200x200x16x1_S200x200x16x16_0_1_2_3
      (maximumf (F := Ideal) (φ := .f32) (densityOf f) (broadcastInDim S200x200x16x1 ![] bcast_S_S200x200x16x1 (constant (F := Ideal) S_ .f32 0x358637BD#32))))

theorem densityOf_at (f : S256x208x512.Idx → EReal) (X Y : Fin 200) (Z : Fin 16) :
    densityOf f (ix4 X Y Z 0) = f (ix3 ⟨X.val, by omega⟩ ⟨Y.val, by omega⟩ ⟨384 + Z.val, by omega⟩) := by
  unfold densityOf
  pointwise

theorem featuresOf_at (f : S256x208x512.Idx → EReal) (X Y : Fin 200) (Z c : Fin 16) :
    featuresOf f (ix4 X Y Z c) = Ideal.div (f (ix3 ⟨X.val, by omega⟩ ⟨Y.val, by omega⟩ ⟨Z.val * 16 + c.val, by omega⟩))
      (max (densityOf f (ix4 X Y Z 0)) (Ideal.ofBits .f32 0x358637BD#32)) := by
  unfold featuresOf
  pointwise

variable (W : Valuation τ sig (Elt Ideal))

theorem tail_v96 : after hostOps1 W (Proc.devRef .tc main_v96) = densityOf (placed (W (Proc.devRef .tc main_v61))) := by
  after_results_simp
  rfl

theorem tail_v102 : after hostOps1 W (Proc.devRef .tc main_v102) = featuresOf (placed (W (Proc.devRef .tc main_v61))) := by
  after_results_simp
  rfl

section End
variable (m : (ℓ : Loc nD τ sig) → Buf (Elt Ideal) ℓ)

theorem out_eq : Pipeline.withArrays spec0 0 (V₀ m 0) (fun w => (dats (V₀ m) 0).arrAt w grid0.N) (Proc.devRef .tc main_v61) = tiles m :=
  (Pipeline.withArrays_arr spec0 (by decide) 0 (V₀ m 0) (fun w => (dats (V₀ m) 0).arrAt w grid0.N) (6 : Fin 7)).trans (arrAt_out m)

theorem endV_v96 : endV m 0 (Proc.devRef .tc main_v96) = densityOf (placed (tiles m)) := by
  unfold endV
  rw [tail_v96, out_eq]

theorem endV_v102 : endV m 0 (Proc.devRef .tc main_v102) = featuresOf (placed (tiles m)) := by
  unfold endV
  rw [tail_v102, out_eq]

/-- What a Gaussian adds to a voxel of the whole grid. -/
def onGrid (a0 : FVec Ideal S16384x3 .f32) (a1 : FVec Ideal S16384x1 .f32) (a2 : FVec Ideal S16384x3x3 .f32) (a3 : FVec Ideal S16384x16 .f32)
    (X y : ℕ) (l : Fin 512) (n : Fin 16384) : EReal :=
  if kept a0 a1 a2 (ix1 n) = 1#1 ∧ firstN a0 a2 n 0 ≤ X ∧ X < firstN a0 a2 n 0 + 8
      ∧ 8 * (firstN a0 a2 n 1 / 8) ≤ y ∧ y < 8 * (firstN a0 a2 n 1 / 8) + 16 then
    partE a0 a1 a2 n (X - firstN a0 a2 n 0) (y - 8 * (firstN a0 a2 n 1 / 8)) (lev l) * featE (fun f => a3 (ix2 n f)) l else 0

theorem one_tile (X : ℕ) (hX : X < 200) (y : Fin 208) (l : Fin 512) (n : Fin 16384) :
    (∑ T : Fin 8, if 25 * T.val ≤ X ∧ X < 25 * T.val + 33 then addE (A0 m 0) (A1 m 0) (A2 m 0) (A3 m 0) T.val (X - 25 * T.val) y.val l n else 0)
      = onGrid (A0 m 0) (A1 m 0) (A2 m 0) (A3 m 0) X y.val l n := by
  unfold addE onGrid Meets
  by_cases hk : kept (A0 m 0) (A1 m 0) (A2 m 0) (ix1 n) = 1#1
  · have hx : firstN (A0 m 0) (A2 m 0) n 0 < 200 := (inGrid_ideal _ _ _ n hk).1
    generalize firstN (A0 m 0) (A2 m 0) n 0 = x at *
    generalize firstN (A0 m 0) (A2 m 0) n 1 / 8 = v at *
    rw [Finset.sum_eq_single (⟨x / 25, by omega⟩ : Fin 8)]
    · dsimp only
      by_cases hc : x ≤ X ∧ X < x + 8 ∧ 8 * v ≤ y.val ∧ y.val < 8 * v + 16
      · rw [if_pos (by omega), if_pos ⟨hk, by omega⟩, if_pos ⟨hk, hc⟩, show X - 25 * (x / 25) + 25 * (x / 25) - x = X - x by omega]
      · refine Eq.trans ?_ (if_neg (fun h => hc h.2)).symm
        by_cases hc2 : 25 * (x / 25) ≤ X ∧ X < 25 * (x / 25) + 33
        · rw [if_pos hc2, if_neg]
          rintro ⟨-, h⟩
          omega
        · rw [if_neg hc2]
    · intro T _ hT
      have hT' : T.val ≠ x / 25 := fun h => hT (Fin.ext h)
      have := T.isLt
      by_cases hc2 : 25 * T.val ≤ X ∧ X < 25 * T.val + 33
      · rw [if_pos hc2, if_neg]
        rintro ⟨-, h⟩
        omega
      · rw [if_neg hc2]
    · intro h; exact absurd (Finset.mem_univ _) h
  · refine Eq.trans (Finset.sum_eq_zero fun T _ => ?_) (if_neg (fun h => hk h.1)).symm
    split_ifs with h1 h2
    · exact absurd h2.1 hk
    · rfl
    · rfl

theorem placed_tiles (X : Fin 256) (hX : X.val < 200) (y : Fin 208) (l : Fin 512) :
    placed (tiles m) (ix3 X y l) = ∑ n : Fin 16384, onGrid (A0 m 0) (A1 m 0) (A2 m 0) (A3 m 0) X.val y.val l n := by
  rw [placed_at]
  have e : ∀ T : Fin 8, rowAt (tiles m) T X.val y l
      = ∑ n : Fin 16384, if 25 * T.val ≤ X.val ∧ X.val < 25 * T.val + 33 then
          addE (A0 m 0) (A1 m 0) (A2 m 0) (A3 m 0) T.val (X.val - 25 * T.val) y.val l n else 0 := by
    intro T
    unfold rowAt
    by_cases hc : 25 * T.val ≤ X.val ∧ X.val < 25 * T.val + 33
    · rw [dif_pos hc]
      simp only [if_pos hc]
      rfl
    · rw [dif_neg hc]
      simp only [if_neg hc, Finset.sum_const_zero]
  simp only [e]
  rw [Finset.sum_comm]
  exact Finset.sum_congr rfl fun n _ => one_tile m X.val hX y l n

end End

end Cert.Vox
end
-- ==== Proof.KerSum.lean ====
module

public import proofs.«01_k».proof.Proof.Share
public import proofs.«01_k».proof.Proof.Suffix

@[expose] public section

noncomputable section

/-! What the kernel adds for one Gaussian to one voxel is its share, times what the lane carries. -/

namespace Cert.Vox

open Cert.KernelIdeal Cert.KernelIdeal.Gen
open Idealize.ShloMosaic Idealize.ShloMosaic.TcCoe

theorem quarter_bits : Ideal.ofBits .f32 0x3E800000#32 = ((1 / 4 : ℝ) : EReal) := by
  simp [Ideal.ofBits, Ideal.ieee, -EReal.coe_mul]
  norm_num
theorem eighth_bits : Ideal.ofBits .f32 0x3E000000#32 = ((1 / 8 : ℝ) : EReal) := by
  simp [Ideal.ofBits, Ideal.ieee, -EReal.coe_mul]
  norm_num
theorem eight_bits : Ideal.ofBits .f32 0x41000000#32 = ((8 : ℝ) : EReal) := by
  simp [Ideal.ofBits, Ideal.ieee, -EReal.coe_mul]
  norm_num
theorem edge_bits : Ideal.ofBits .f32 0xC2470000#32 = ((-199 / 4 : ℝ) : EReal) := by
  simp [Ideal.ofBits, Ideal.ieee, -EReal.coe_mul, -EReal.coe_neg]
  norm_num
theorem floor_bits : Ideal.ofBits .f32 0xC0A00000#32 = ((-5 : ℝ) : EReal) := by
  simp [Ideal.ofBits, Ideal.ieee, -EReal.coe_mul, -EReal.coe_neg]
  norm_num

/-- The start of the window along y is the start of the box rounded down to a multiple of eight. -/
theorem alignE_nat (h : ℕ) : alignE (nE h) = nE (8 * (h / 8)) := by
  unfold alignE nE
  rw [eighth_bits, eight_bits, ← EReal.coe_mul]
  show (((⌊(h : ℝ) * (1 / 8)⌋ : ℤ) : ℝ) : EReal) * _ = _
  have e : ⌊(h : ℝ) * (1 / 8)⌋ = ((h / 8 : ℕ) : ℤ) := by
    rw [Int.floor_eq_iff, Int.cast_natCast]
    have h1 : ((8 * (h / 8) + h % 8 : ℕ) : ℝ) = h := congrArg Nat.cast (Nat.div_add_mod h 8)
    have h2 : ((h % 8 : ℕ) : ℝ) < 8 := by exact_mod_cast Nat.mod_lt h (by norm_num)
    have h3 : (0 : ℝ) ≤ ((h % 8 : ℕ) : ℝ) := Nat.cast_nonneg _
    rw [Nat.cast_add, Nat.cast_mul] at h1
    norm_num at h1
    constructor <;> linarith
  rw [e, ← EReal.coe_mul, Int.cast_natCast, Nat.cast_mul, mul_comm]
  rfl

theorem one_and (p q : Prop) [Decidable p] [Decidable q] : (if p then (1 : EReal) else 0) * (if q then 1 else 0) = if p ∧ q then 1 else 0 := by
  by_cases hp : p <;> by_cases hq : q <;> simp [hp, hq]

theorem bit_if (p : Prop) [Decidable p] : bitE (BitVec.ofBool (decide p)) = if p then 1 else 0 := by
  unfold bitE
  by_cases h : p <;> simp [h]

theorem bit_and (p q : Prop) [Decidable p] [Decidable q] : IntOp.andi (BitVec.ofBool (decide p)) (BitVec.ofBool (decide q)) = BitVec.ofBool (decide (p ∧ q)) := by
  by_cases hp : p <;> by_cases hq : q <;> simp [hp, hq] <;> decide

/-- The box test in whole numbers. -/
theorem inE_nat (i j z h1 h2 : ℕ) (s0 s1 s2 : ℤ) :
    inE (nE i) (nE j) (nE z) (nE h1) (nE h2) (((s0 : ℤ) : ℝ) : EReal) (((s1 : ℤ) : ℝ) : EReal) (((s2 : ℤ) : ℝ) : EReal)
      = if (i : ℤ) ≤ s0 ∧ ((h1 : ℤ) ≤ 8 * (h1 / 8) + j ∧ (8 * (h1 / 8) + j : ℤ) - h1 ≤ s1) ∧ ((h2 : ℤ) ≤ z ∧ (z : ℤ) - h2 ≤ s2) then 1 else 0 := by
  have e0 : leE (nE i) (((s0 : ℤ) : ℝ) : EReal) = BitVec.ofBool (decide ((i : ℤ) ≤ s0)) := by
    unfold leE nE
    refine congrArg BitVec.ofBool (decide_eq_decide.2 ?_)
    rw [EReal.coe_le_coe_iff, ← Int.cast_natCast (R := ℝ), Int.cast_le]
  have d : ∀ a b c : ℕ, nE a + nE b - nE c = ((((a : ℤ) + b - c : ℤ) : ℝ) : EReal) := by
    intro a b c
    unfold nE
    rw [← EReal.coe_add, ← EReal.coe_sub]
    push_cast
    rfl
  have d' : ∀ a c : ℕ, nE a - nE c = ((((a : ℤ) - c : ℤ) : ℝ) : EReal) := by
    intro a c
    unfold nE
    rw [← EReal.coe_sub]
    push_cast
    rfl
  have l0 : ∀ x : ℤ, leE 0 ((x : ℝ) : EReal) = BitVec.ofBool (decide (0 ≤ x)) := by
    intro x
    unfold leE
    refine congrArg BitVec.ofBool (decide_eq_decide.2 ?_)
    rw [← EReal.coe_zero, EReal.coe_le_coe_iff, Int.cast_nonneg_iff]
  have l1 : ∀ x y : ℤ, leE ((x : ℝ) : EReal) ((y : ℝ) : EReal) = BitVec.ofBool (decide (x ≤ y)) := by
    intro x y
    unfold leE
    refine congrArg BitVec.ofBool (decide_eq_decide.2 ?_)
    rw [EReal.coe_le_coe_iff, Int.cast_le]
  unfold inE
  rw [alignE_nat, e0, d, d', l0, l0, l1, l1, bit_and, bit_and, bit_if, bit_if, bit_if]
  rw [one_and, one_and]
  refine if_congr ?_ rfl rfl
  push_cast
  omega

variable (a0 : FVec Ideal S16384x3 .f32) (a1 : FVec Ideal S16384x1 .f32) (a2 : FVec Ideal S16384x3x3 .f32) (a3 : FVec Ideal S16384x16 .f32)

theorem firstN_eq (n : Fin 16384) (a : Fin 3) : firstN a0 a2 n a = headN a0 a2 n a := by
  have := headN_le a0 a2 n a
  unfold firstN
  rw [start_eq]
  show (BitVec.ofNat 32 (headN a0 a2 n a)).toNat = _
  rw [BitVec.toNat_ofNat]
  omega

theorem startE_eq (n : Fin 16384) (a : Fin 3) : startE a0 a2 n a = nE (headN a0 a2 n a) := by
  unfold startE
  rw [start_eq]
  exact sitofp_nat _ (by have := headN_le a0 a2 n a; unfold headN at this; omega)

theorem spanE_eq (n : Fin 16384) (a : Fin 3) : spanE a0 a2 n a = ((((lastN a0 a2 n a : ℤ) - headN a0 a2 n a : ℤ) : ℝ) : EReal) := by
  unfold spanE
  show ((((subi (stop a0 a2) (start a0 a2) (ix2 n a)).toInt : ℤ) : ℝ) : EReal) = _
  exact congrArg (fun z : ℤ => ((z : ℝ) : EReal)) (width_int a0 a2 n a)

/-- From the mean to a voxel's centre, in real numbers. -/
def dispR (x : Fin 3 → ℝ) (v : Fin 3 → ℕ) (a : Fin 3) : ℝ := (v a : ℝ) * (1 / 2) + loR a + 1 / 4 - x a

theorem dispE_coe (n : Fin 16384) (x : Fin 3 → ℝ) (hx : ∀ a, a0 (ix2 n a) = ((x a : ℝ) : EReal)) (v : Fin 3 → ℕ) (hv : ∀ a, v a < 2 ^ 31) (a : Fin 3) :
    dispE a0 n v a = ((dispR x v a : ℝ) : EReal) := by
  unfold dispE dispR
  rw [sitofp_nat _ (hv a), half_bits, quarter_bits, hx]
  unfold nE
  norm_cast

theorem offXY_coe (s d : ℕ) (x : ℝ) (v : ℕ) (h : s + d = v) : offXY (nE s) (nE d) (x : EReal) = (((v : ℝ) * (1 / 2) + (-50) + 1 / 4 - x : ℝ) : EReal) := by
  unfold offXY nE
  rw [half_bits, edge_bits, ← h]
  norm_cast
  push_cast
  ring

theorem offZ_coe (d : ℕ) (x : ℝ) : offZ (nE d) (x : EReal) = (((d : ℝ) * (1 / 2) + (-5) + 1 / 4 - x : ℝ) : EReal) := by
  unfold offZ nE
  rw [half_bits, floor_bits]
  norm_cast
  ring

open Classical in
/-- The kernel's part at a voxel of the window. -/
theorem partE_eq (n : Fin 16384) (m : Fin 3 → Fin 3 → ℝ) (ht : Tame a2 n m) (hk : kept a0 a1 a2 (ix1 n) = 1#1) (v : Fin 3 → ℕ) (hv : ∀ a, v a < 2 ^ 31)
    (i j : ℕ) (hi : headN a0 a2 n 0 + i = v 0) (hj : 8 * (headN a0 a2 n 1 / 8) + j = v 1) :
    partE a0 a1 a2 n i j (v 2) = shareE a0 a1 a2 n v := by
  have hreal : ∀ a, ∃ x : ℝ, a0 (ix2 n a) = (x : EReal) := fun a => by
    obtain ⟨x, -, hx, -⟩ := kept_real a0 a1 a2 n m ht hk a
    exact ⟨x, hx⟩
  choose x hx using hreal
  have hdet : detR m ≠ 0 := by
    intro h
    refine ht.det ?_
    rw [← h]
    unfold detR cofR
    simp only [Fin.isValue, show (0 : Fin 3) + 1 = 1 from rfl, show (0 : Fin 3) + 2 = 2 from rfl, show (1 : Fin 3) + 1 = 2 from rfl, show (1 : Fin 3) + 2 = 0 from rfl,
      show (2 : Fin 3) + 1 = 0 from rfl, show (2 : Fin 3) + 2 = 1 from rfl]
    rw [← ht.h01, ← ht.h02, ← ht.h12]
    ring
  have hq := quad_same m hdet ht.h01 ht.h02 ht.h12 (dispR x v)
  have hd : dispE a0 n v = fun a => ((dispR x v a : ℝ) : EReal) := funext fun a => dispE_coe a0 n x hx v hv a
  have hm : (fun i j => a2 (ix3 n i j)) = fun i j => ((m i j : ℝ) : EReal) := funext fun i => funext fun j => ht.real i j
  have hin : inE (nE i) (nE j) (nE (v 2)) (startE a0 a2 n 1) (startE a0 a2 n 2) (spanE a0 a2 n 0) (spanE a0 a2 n 1) (spanE a0 a2 n 2)
      = if InBox a0 a1 a2 n v then 1 else 0 := by
    rw [startE_eq, startE_eq, spanE_eq, spanE_eq, spanE_eq, inE_nat]
    refine if_congr ?_ rfl rfl
    have hb : InBox a0 a1 a2 n v ↔ (headN a0 a2 n 0 ≤ v 0 ∧ v 0 ≤ lastN a0 a2 n 0) ∧ (headN a0 a2 n 1 ≤ v 1 ∧ v 1 ≤ lastN a0 a2 n 1) ∧ (headN a0 a2 n 2 ≤ v 2 ∧ v 2 ≤ lastN a0 a2 n 2) := by
      unfold InBox
      rw [Fin.forall_fin_succ, Fin.forall_fin_two]
      exact ⟨fun h => h.2, fun h => ⟨hk, h⟩⟩
    rw [hb]
    omega
  unfold partE
  rw [hin, startE_eq, startE_eq, alignE_nat, hx, hx, hx, offXY_coe _ _ _ _ hi, offXY_coe _ _ _ _ hj, offZ_coe, ht.real, ht.real, ht.real, ht.real, ht.real, ht.real]
  refine (congrArg (fun q : EReal => a1 (ix2 n 0) * Ideal.exp q * _) hq).trans ?_
  by_cases hb : InBox a0 a1 a2 n v
  · rw [if_pos hb, shareE_in _ _ _ hb, mul_one]
    unfold giveE
    rw [hd, hm]
  · rw [if_neg hb, shareE_out _ _ _ hb, mul_zero]

/-- What the kernel adds to a voxel is the Gaussian's share of it. -/
theorem onGrid_share (n : Fin 16384) (m : Fin 3 → Fin 3 → ℝ) (ht : Tame a2 n m) (X y : ℕ) (hX : X < 200) (hy : y < 208) (l : Fin 512) :
    onGrid a0 a1 a2 a3 X y l n = shareE a0 a1 a2 n ![X, y, lev l] * featE (fun f => a3 (ix2 n f)) l := by
  have hlev : lev l < 512 := by unfold lev; split <;> omega
  unfold onGrid
  rw [firstN_eq, firstN_eq]
  by_cases h : kept a0 a1 a2 (ix1 n) = 1#1 ∧ headN a0 a2 n 0 ≤ X ∧ X < headN a0 a2 n 0 + 8
      ∧ 8 * (headN a0 a2 n 1 / 8) ≤ y ∧ y < 8 * (headN a0 a2 n 1 / 8) + 16
  · rw [if_pos h]
    obtain ⟨hk, h1, h2, h3, h4⟩ := h
    refine congrArg (· * _) ?_
    refine partE_eq a0 a1 a2 n m ht hk ![X, y, lev l] ?_ _ _ ?_ ?_
    · intro a
      fin_cases a
      · show X < _; omega
      · show y < _; omega
      · show lev l < _; omega
    · show _ + _ = X; omega
    · show _ + _ = y; omega
  · rw [if_neg h, shareE_out, zero_mul]
    rintro ⟨hk, hb⟩
    have b0 : headN a0 a2 n 0 ≤ X ∧ X ≤ lastN a0 a2 n 0 := hb 0
    have b1 : headN a0 a2 n 1 ≤ y ∧ y ≤ lastN a0 a2 n 1 := hb 1
    have l0 := last_le a0 a1 a2 n m ht hk 0
    have l1 := last_le a0 a1 a2 n m ht hk 1
    exact h ⟨hk, by omega, by omega, by omega, by omega⟩

end Cert.Vox

end
-- ==== Proof.RefFlat.lean ====
module

public import proofs.«01_k».proof.Proof.RefGrid
public import Idealize.ShloMosaic.Lib.Routing.OpsPair

@[expose] public section

noncomputable section

/-! Where the reference's contributions land: the clipped voxel's flat number. -/

namespace Cert.Vox.Ref

open Cert.ReferenceIdeal Cert.ReferenceIdeal.Value
open Idealize.ShloMosaic Idealize.ShloMosaic.TcCoe

variable (V : Vals)

/-- The voxel, held inside the grid. -/
def voxN (n : Fin 16384) (k : Fin 512) (a : Fin 3) : ℕ := cellN a (boxLo (B0 V) (B2 V) (ix2 n a)) + offN k a
def clipN (n : Fin 16384) (k : Fin 512) (a : Fin 3) : ℕ := min (voxN V n k a) ((![199, 199, 15] : Fin 3 → ℕ) a)

theorem voxN_lt (n : Fin 16384) (k : Fin 512) (a : Fin 3) : voxN V n k a < 208 := by
  have h1 := cellN_le a (boxLo (B0 V) (B2 V) (ix2 n a))
  have h2 := offN_lt k a
  unfold voxN
  omega

/-- A clip of a natural number in words. -/
theorem clip_nat (v g : ℕ) (hv : v < 2 ^ 31) (hg : g < 2 ^ 31) :
    IntOp.minsi (BitVec.ofNat 32 g) (IntOp.maxsi 0#32 (BitVec.ofNat 32 v)) = BitVec.ofNat 32 (min v g) := by
  have h1 := WordArith.toInt_ofNat_small v hv
  have h2 := WordArith.toInt_ofNat_small g hg
  have e : IntOp.maxsi 0#32 (BitVec.ofNat 32 v) = BitVec.ofNat 32 v := by
    unfold IntOp.maxsi
    by_cases hs : (BitVec.ofNat 32 v).slt 0#32 = true
    · rw [BitVec.slt_eq_decide, h1] at hs
      simp at hs
      omega
    · rw [if_neg hs]
  rw [e]
  unfold IntOp.minsi
  by_cases hs : (BitVec.ofNat 32 g).slt (BitVec.ofNat 32 v) = true
  · rw [if_pos hs]
    rw [BitVec.slt_eq_decide, h1, h2] at hs
    simp at hs
    rw [min_eq_right (by omega)]
  · rw [if_neg hs]
    rw [BitVec.slt_eq_decide, h1, h2] at hs
    simp at hs
    rw [min_eq_left (by omega)]

theorem v250_at (n : Fin 16384) (k : Fin 512) (a : Fin 3) : res_main_v250 V (ix3 n k a) = BitVec.ofNat 32 (clipN V n k a) := by
  have hc := clip_nat (voxN V n k a) ((![199, 199, 15] : Fin 3 → ℕ) a) (by have := voxN_lt V n k a; omega) (by fin_cases a <;> simp)
  refine Eq.trans ?_ hc
  unfold res_main_v250 id
  rw [c_eq]
  pointwise
  refine congrArg₂ IntOp.minsi ?_ (congrArg (IntOp.maxsi 0#32) (v55_at V n k a))
  fin_cases a <;> rfl

/-- The flat number. -/
def flatN (n : Fin 16384) (k : Fin 512) : ℕ := (clipN V n k 0 * 200 + clipN V n k 1) * 16 + clipN V n k 2

theorem flatN_lt (n : Fin 16384) (k : Fin 512) : flatN V n k < 640000 := by
  have h0 : clipN V n k 0 ≤ 199 := min_le_right _ _
  have h1 : clipN V n k 1 ≤ 199 := min_le_right _ _
  have h2 : clipN V n k 2 ≤ 15 := min_le_right _ _
  unfold flatN
  omega

theorem v262_at (n : Fin 16384) (k : Fin 512) : res_main_v262 V (ix2 n k) = BitVec.ofNat 32 (flatN V n k) := by
  unfold res_main_v262
  pointwise
  rw [v250_at, v250_at, v250_at]
  unfold flatN
  rw [BitVec.ofNat_add, BitVec.ofNat_mul, BitVec.ofNat_add, BitVec.ofNat_mul]
  rfl

/-- The row of the index table. -/
def rowJ (n : Fin 16384) (k : Fin 512) : Fin 8388608 := ⟨n.val * 512 + k.val, by omega⟩

theorem words_at (n : Fin 16384) (k : Fin 512) :
    broadcastInDim S8388608x1 ![0] Gen.bcast_S8388608_S8388608x1_0 (select (cmpi .slt (res_main_v264 V) (broadcastInDim S8388608 ![] Gen.bcast_S_S8388608 (constantI S_ 32 0#32))) (addi (res_main_v264 V) (broadcastInDim S8388608 ![] Gen.bcast_S_S8388608 (constantI S_ 32 640000#32))) (res_main_v264 V)) (ix2 (rowJ n k) 0)
      = BitVec.ofNat 32 (flatN V n k) := by
  have hv : res_main_v264 V (ix1 (rowJ n k)) = BitVec.ofNat 32 (flatN V n k) := by
    rw [← v262_at]
    unfold res_main_v264
    pointwise
    have e1 : (⟨(rowJ n k).val / 512, by omega⟩ : Fin 16384) = n := Fin.ext (show (n.val * 512 + k.val) / 512 = n.val by omega)
    have e2 : (⟨(rowJ n k).val % 512, by omega⟩ : Fin 512) = k := Fin.ext (show (n.val * 512 + k.val) % 512 = k.val by omega)
    exact congrArg₂ (fun a b => res_main_v262 V (ix2 a b)) e1 e2
  pointwise
  rw [hv]
  have h0 : IntOp.cmpi CmpIPredicate.slt (BitVec.ofNat 32 (flatN V n k)) 0#32 = 0#1 := by
    show BitVec.ofBool ((BitVec.ofNat 32 (flatN V n k)).slt 0#32) = 0#1
    rw [BitVec.slt_eq_decide, WordArith.toInt_ofNat_small _ (by have := flatN_lt V n k; omega)]
    have : ¬ ((flatN V n k : ℤ) < (0#32).toInt) := by simp
    rw [decide_eq_false this]
    rfl
  rw [h0]
  rfl

theorem v279_eq : res_main_v279 V = res_main_v264 V := rfl

/-- A contribution lands where its index word says. -/
theorem lands_flat (idx : IVec S8388608x1 32) (J : Fin 8388608) (t : Fin 640000) :
    (scatter_S640000_S8388608x1_S8388608_n_0_0_1).resultIdx? (ix1 J) idx = some (ix1 t) ↔ (idx (ix2 J 0)).toInt = t.val := by
  have hs : ∀ c, (scatter_S640000_S8388608x1_S8388608_n_0_0_1).siIdx (ix1 J) c = ix2 J 0 := by
    intro c; funext a; fin_cases a
    · rfl
    · exact Fin.ext (by show c.val = 0; exact Nat.lt_one_iff.1 c.isLt)
  have h0 : ∀ a, (scatter_S640000_S8388608x1_S8388608_n_0_0_1).start (ix1 J) idx a = (idx (ix2 J 0)).toInt := by
    intro a
    fin_cases a
    unfold ScatterDims.start
    rw [dif_pos (by decide)]
    exact congrArg (fun i => (idx i).toInt) (hs _)
  have hw : ∀ a, (scatter_S640000_S8388608x1_S8388608_n_0_0_1).window (ix1 J) a = 0 := by
    intro a; fin_cases a; rfl
  rw [Routing.resultIdx?_eq_some]
  constructor
  · intro h
    have := h 0
    rw [h0, hw] at this
    simpa using this
  · intro h a
    rw [h0, hw, h]
    fin_cases a
    simp

theorem lands_row (idx : IVec S8388608x1 32) (J : Fin 8388608) (c' : Fin 16) (t : Fin 640000) (c : Fin 16) :
    (scatter_S640000x16_S8388608x1_S8388608x16_1_0_0_1).resultIdx? (ix2 J c') idx = some (ix2 t c) ↔ (idx (ix2 J 0)).toInt = t.val ∧ c' = c := by
  have hs : ∀ e, (scatter_S640000x16_S8388608x1_S8388608x16_1_0_0_1).siIdx (ix2 J c') e = ix2 J 0 := by
    intro e; funext a; fin_cases a
    · rfl
    · exact Fin.ext (by show e.val = 0; exact Nat.lt_one_iff.1 e.isLt)
  have h0 : (scatter_S640000x16_S8388608x1_S8388608x16_1_0_0_1).start (ix2 J c') idx 0 = (idx (ix2 J 0)).toInt := by
    unfold ScatterDims.start
    rw [dif_pos (by decide)]
    exact congrArg (fun i => (idx i).toInt) (hs _)
  have h1 : (scatter_S640000x16_S8388608x1_S8388608x16_1_0_0_1).start (ix2 J c') idx 1 = 0 := by
    unfold ScatterDims.start
    rw [dif_neg (by decide)]
  have w0 : (scatter_S640000x16_S8388608x1_S8388608x16_1_0_0_1).window (ix2 J c') 0 = 0 := rfl
  have w1 : (scatter_S640000x16_S8388608x1_S8388608x16_1_0_0_1).window (ix2 J c') 1 = c'.val := rfl
  rw [Routing.resultIdx?_eq_some]
  constructor
  · intro h
    have a0 := h 0
    have a1 := h 1
    rw [h0, w0] at a0
    rw [h1, w1] at a1
    refine ⟨by simpa using a0, Fin.ext ?_⟩
    have : (0 : ℤ) + (c'.val : ℤ) = c.val := a1
    omega
  · rintro ⟨h, rfl⟩ a
    fin_cases a
    · refine (congrArg₂ (fun (x : ℤ) (y : ℕ) => x + (y : ℤ)) (h0.trans h) w0).trans ?_
      show (t.val : ℤ) + ((0 : ℕ) : ℤ) = t.val
      simp
    · refine (congrArg₂ (fun (x : ℤ) (y : ℕ) => x + (y : ℤ)) h1 w1).trans ?_
      show (0 : ℤ) + (c'.val : ℤ) = c'.val
      simp

/-- A sum over the contributions, Gaussian by Gaussian. -/
theorem sum_rows (f : Fin 8388608 → EReal) : ∑ J, f J = ∑ n : Fin 16384, ∑ k : Fin 512, f (rowJ n k) := by
  rw [← Fintype.sum_prod_type']
  refine (Fintype.sum_equiv (finProdFinEquiv (m := 16384) (n := 512)) _ _ fun p => ?_).symm
  refine congrArg f (Fin.ext ?_)
  show p.1.val * 512 + p.2.val = p.2.val + 512 * p.1.val
  omega

/-- A line's places. -/
def lineEquiv (N : ℕ) : Fin N ≃ (⟨1, ![N]⟩ : Shape).Idx where
  toFun i := ix1 i
  invFun i := i 0
  left_inv _ := rfl
  right_inv i := by funext a; fin_cases a; rfl

/-- A scatter of additions at a place: the sum of what lands there. -/
theorem scatterAdd_line {s si : Shape} {N : ℕ} (d : ScatterDims s si ⟨1, ![N]⟩) (x : FVec Ideal s .f32) (idx : IVec si 32) (u : FVec Ideal ⟨1, ![N]⟩ .f32)
    (i : s.Idx) (hx : x i = 0) (P : Fin N → Prop) [DecidablePred P] (hP : ∀ J, d.resultIdx? (ix1 J) idx = some i ↔ P J) :
    Host.scatterAdd (F := Ideal) (φ := .f32) d x idx u i = ∑ J : Fin N, if P J then u (ix1 J) else 0 := by
  have h : Host.scatterAdd (F := Ideal) (φ := .f32) d x idx u i = x i + ∑ j ∈ Finset.univ.filter (fun j => d.resultIdx? j idx = some i), u j := rfl
  rw [h, hx, zero_add, Finset.sum_filter, ← Equiv.sum_comp (lineEquiv N)]
  exact Fintype.sum_congr _ _ fun J => if_congr (hP J) rfl rfl

theorem scatterAdd_table {s si : Shape} {N M : ℕ} (d : ScatterDims s si ⟨2, ![N, M]⟩) (x : FVec Ideal s .f32) (idx : IVec si 32) (u : FVec Ideal ⟨2, ![N, M]⟩ .f32)
    (i : s.Idx) (hx : x i = 0) (c : Fin M) (P : Fin N → Prop) [DecidablePred P] (hP : ∀ J c', d.resultIdx? (ix2 J c') idx = some i ↔ P J ∧ c' = c) :
    Host.scatterAdd (F := Ideal) (φ := .f32) d x idx u i = ∑ J : Fin N, if P J then u (ix2 J c) else 0 := by
  have h : Host.scatterAdd (F := Ideal) (φ := .f32) d x idx u i = x i + ∑ j ∈ Finset.univ.filter (fun j => d.resultIdx? j idx = some i), u j := rfl
  rw [h, hx, zero_add, Finset.sum_filter, ValueIdx.sum_idx2]
  refine Fintype.sum_congr _ _ fun J => ?_
  refine (Fintype.sum_congr _ _ fun c' => if_congr (hP J c') rfl rfl).trans ?_
  by_cases hJ : P J
  · simp only [hJ, true_and, if_true]
    rw [Finset.sum_ite_eq' Finset.univ c]
    simp
    rfl
  · simp [hJ]

theorem zero_line (t : Fin 640000) : broadcastInDim S640000 ![] Gen.bcast_S_S640000 (constant (F := Ideal) S_ .f32 0x00000000#32) (ix1 t) = 0 := by
  pointwise
theorem zero_table (t : Fin 640000) (c : Fin 16) : broadcastInDim S640000x16 ![] Gen.bcast_S_S640000x16 (constant (F := Ideal) S_ .f32 0x00000000#32) (ix2 t c) = 0 := by
  pointwise

/-- The index words. -/
def wordsR : IVec S8388608x1 32 :=
  broadcastInDim S8388608x1 ![0] Gen.bcast_S8388608_S8388608x1_0 (select (cmpi .slt (res_main_v264 V) (broadcastInDim S8388608 ![] Gen.bcast_S_S8388608 (constantI S_ 32 0#32))) (addi (res_main_v264 V) (broadcastInDim S8388608 ![] Gen.bcast_S_S8388608 (constantI S_ 32 640000#32))) (res_main_v264 V))

theorem word_int (n : Fin 16384) (k : Fin 512) : (wordsR V (ix2 (rowJ n k) 0)).toInt = flatN V n k := by
  refine (congrArg BitVec.toInt (words_at V n k)).trans ?_
  exact WordArith.toInt_ofNat_small _ (by have := flatN_lt V n k; omega)

theorem scatter_flat (u : FVec Ideal S8388608 .f32) (t : Fin 640000) :
    Host.scatterAdd (F := Ideal) (φ := .f32) scatter_S640000_S8388608x1_S8388608_n_0_0_1 (broadcastInDim S640000 ![] Gen.bcast_S_S640000 (constant (F := Ideal) S_ .f32 0x00000000#32)) (wordsR V) u (ix1 t)
      = ∑ n : Fin 16384, ∑ k : Fin 512, if flatN V n k = t.val then u (ix1 (rowJ n k)) else 0 := by
  refine (scatterAdd_line _ _ _ _ _ (zero_line t) (fun J => (wordsR V (ix2 J 0)).toInt = t.val) (fun J => lands_flat _ J t)).trans ?_
  refine (sum_rows _).trans ?_
  refine Fintype.sum_congr _ _ fun n => Fintype.sum_congr _ _ fun k => if_congr ?_ rfl rfl
  rw [word_int]
  exact Int.natCast_inj

theorem scatter_row (u : FVec Ideal S8388608x16 .f32) (t : Fin 640000) (c : Fin 16) :
    Host.scatterAdd (F := Ideal) (φ := .f32) scatter_S640000x16_S8388608x1_S8388608x16_1_0_0_1 (broadcastInDim S640000x16 ![] Gen.bcast_S_S640000x16 (constant (F := Ideal) S_ .f32 0x00000000#32)) (wordsR V) u (ix2 t c)
      = ∑ n : Fin 16384, ∑ k : Fin 512, if flatN V n k = t.val then u (ix2 (rowJ n k) c) else 0 := by
  refine (scatterAdd_table _ _ _ _ _ (zero_table t c) c (fun J => (wordsR V (ix2 J 0)).toInt = t.val) (fun J c' => lands_row _ J c' t c)).trans ?_
  refine (sum_rows _).trans ?_
  refine Fintype.sum_congr _ _ fun n => Fintype.sum_congr _ _ fun k => if_congr ?_ rfl rfl
  rw [word_int]
  exact Int.natCast_inj

end Cert.Vox.Ref

end
-- ==== Proof.RefSum.lean ====
module

public import proofs.«01_k».proof.Proof.Share
public import proofs.«01_k».proof.Proof.RefFlat

@[expose] public section

noncomputable section

/-! The reference's two scatters: each voxel gets every Gaussian's share. -/

namespace Cert.Vox.Ref

open Cert.ReferenceIdeal Cert.ReferenceIdeal.Value
open Idealize.ShloMosaic Idealize.ShloMosaic.TcCoe

variable (V : Vals)

theorem validR_iff (n : Fin 16384) (k : Fin 512) :
    validR V n k = 1#1 ↔ (∀ a, voxN V n k a ≤ lastN (B0 V) (B2 V) n a) ∧ kept (B0 V) (B1 V) (B2 V) (ix1 n) = 1#1 := by
  have ha : ∀ x y : BitVec 1, IntOp.andi x y = 1#1 ↔ x = 1#1 ∧ y = 1#1 := by decide
  have hf : ∀ f : Fin 3 → BitVec 1, Finset.fold IntOp.andi 1#1 f Finset.univ = 1#1 ↔ ∀ a, f a = 1#1 := by
    intro f
    rw [show (∀ a, f a = 1#1) ↔ f 0 = 1#1 ∧ f 1 = 1#1 ∧ f 2 = 1#1 from Fin.forall_fin_succ.trans (and_congr_right fun _ => Fin.forall_fin_two)]
    have e : Finset.fold IntOp.andi (1#1) f Finset.univ = IntOp.andi (f 0) (IntOp.andi (f 1) (IntOp.andi (f 2) 1#1)) := rfl
    rw [e]
    generalize f 0 = p
    generalize f 1 = q
    generalize f 2 = r
    revert p q r; decide
  unfold validR
  rw [ha, hf]
  refine and_congr_left fun _ => forall_congr' fun a => ?_
  rw [v50_at]
  show BitVec.ofBool ((BitVec.ofNat 32 (offN k a)).sle (IntOp.subi (stop (B0 V) (B2 V) (ix2 n a)) (start (B0 V) (B2 V) (ix2 n a)))) = 1#1 ↔ _
  rw [WordArith.ofBool_eq_one_iff, BitVec.sle_eq_decide, decide_eq_true_iff]
  rw [WordArith.toInt_ofNat_small _ (by have := offN_lt k a; omega)]
  refine (Iff.of_eq (congrArg (fun z : ℤ => (offN k a : ℤ) ≤ z) (width_int (B0 V) (B2 V) n a))).trans ?_
  have e : voxN V n k a = headN (B0 V) (B2 V) n a + offN k a := rfl
  rw [e]
  omega

/-- The contribution at a voxel of the window. -/
theorem v247_share (n : Fin 16384) (k : Fin 512) :
    res_main_v247 V (ix2 n k) = giveE (B0 V) (B1 V) (B2 V) n (voxN V n k) * bitE (validR V n k) := by
  rw [v247_at]
  refine congrArg₂ (· * ·) (congrArg (fun y => B1 V (ix2 n 0) * Ideal.exp (Ideal.ofBits .f32 0xBF000000#32 * quadR (covE V n) y)) ?_) rfl
  funext a
  rw [v76_at, v55_at]
  rfl

theorem v247_zero (n : Fin 16384) (k : Fin 512) (h : validR V n k ≠ 1#1) : res_main_v247 V (ix2 n k) = (0 : EReal) := by
  have h0 : validR V n k = 0#1 := by
    generalize validR V n k = b at *
    revert b; decide
  rw [v247_share, h0]
  show _ * (((0 : ℕ) : ℝ) : EReal) = 0
  simp

/-- The place of a voxel. -/
def placeN (v : Fin 3 → ℕ) : ℕ := (v 0 * 200 + v 1) * 16 + v 2

theorem place_inj (v w : Fin 3 → ℕ) (hv : ∀ a, v a ≤ (![199, 199, 15] : Fin 3 → ℕ) a) (hw : ∀ a, w a ≤ (![199, 199, 15] : Fin 3 → ℕ) a)
    (h : placeN v = placeN w) : v = w := by
  have a0 : v 0 ≤ 199 := hv 0
  have a1 : v 1 ≤ 199 := hv 1
  have a2 : v 2 ≤ 15 := hv 2
  have b0 : w 0 ≤ 199 := hw 0
  have b1 : w 1 ≤ 199 := hw 1
  have b2 : w 2 ≤ 15 := hw 2
  unfold placeN at h
  funext a
  fin_cases a
  · show v 0 = w 0; omega
  · show v 1 = w 1; omega
  · show v 2 = w 2; omega

/-- A valid voxel is its own clip. -/
theorem clip_valid (n : Fin 16384) (k : Fin 512) (h : validR V n k = 1#1) : clipN V n k = voxN V n k := by
  obtain ⟨h, -⟩ := (validR_iff V n k).1 h
  funext a
  exact min_eq_left (le_trans (h a) (min_le_right _ _))

theorem off_inj (k l : Fin 512) (h : ∀ a, offN k a = offN l a) : k = l := by
  have h0 : k.val / 64 = l.val / 64 := h 0
  have h1 : k.val / 8 % 8 = l.val / 8 % 8 := h 1
  have h2 : k.val % 8 = l.val % 8 := h 2
  exact Fin.ext (by omega)

/-- The sum over a Gaussian's window of what lands at a voxel is its share of the voxel. -/
theorem window_sum (n : Fin 16384) (hs : kept (B0 V) (B1 V) (B2 V) (ix1 n) = 1#1 → ∀ a, lastN (B0 V) (B2 V) n a ≤ headN (B0 V) (B2 V) n a + 7)
    (v : Fin 3 → ℕ) (hv : ∀ a, v a ≤ (![199, 199, 15] : Fin 3 → ℕ) a) (w : EReal → EReal) (w0 : w 0 = 0) :
    ∑ k : Fin 512, (if flatN V n k = placeN v then w (res_main_v247 V (ix2 n k)) else 0) = w (shareE (B0 V) (B1 V) (B2 V) n v) := by
  have hval : ∀ k, validR V n k = 1#1 → flatN V n k = placeN v → voxN V n k = v := by
    intro k hk hf
    have hc := clip_valid V n k hk
    rw [← hc]
    exact place_inj _ _ (fun a => min_le_right _ _) hv hf
  have hoff : ∀ k, validR V n k ≠ 1#1 → (if flatN V n k = placeN v then w (res_main_v247 V (ix2 n k)) else 0) = 0 := by
    intro k hk
    rw [v247_zero V n k hk, w0, ite_self]
  by_cases hb : InBox (B0 V) (B1 V) (B2 V) n v
  · obtain ⟨hk, hbox⟩ := hb
    have h7 := hs hk
    have o : ∀ a, v a - headN (B0 V) (B2 V) n a < 8 := fun a => by have := hbox a; have := h7 a; omega
    have o0 := o 0
    have o1 := o 1
    have o2 := o 2
    let k0 : Fin 512 := ⟨(v 0 - headN (B0 V) (B2 V) n 0) * 64 + (v 1 - headN (B0 V) (B2 V) n 1) * 8 + (v 2 - headN (B0 V) (B2 V) n 2), by omega⟩
    have hk0 : ∀ a, offN k0 a = v a - headN (B0 V) (B2 V) n a := by
      intro a
      fin_cases a
      · show ((v 0 - headN (B0 V) (B2 V) n 0) * 64 + (v 1 - headN (B0 V) (B2 V) n 1) * 8 + (v 2 - headN (B0 V) (B2 V) n 2)) / 64 = v 0 - headN (B0 V) (B2 V) n 0
        omega
      · show ((v 0 - headN (B0 V) (B2 V) n 0) * 64 + (v 1 - headN (B0 V) (B2 V) n 1) * 8 + (v 2 - headN (B0 V) (B2 V) n 2)) / 8 % 8 = v 1 - headN (B0 V) (B2 V) n 1
        omega
      · show ((v 0 - headN (B0 V) (B2 V) n 0) * 64 + (v 1 - headN (B0 V) (B2 V) n 1) * 8 + (v 2 - headN (B0 V) (B2 V) n 2)) % 8 = v 2 - headN (B0 V) (B2 V) n 2
        omega
    have hvox : voxN V n k0 = v := by
      funext a
      have := hk0 a
      have := (hbox a).1
      have e : voxN V n k0 a = headN (B0 V) (B2 V) n a + offN k0 a := rfl
      omega
    have hvalid : validR V n k0 = 1#1 := (validR_iff V n k0).2 ⟨fun a => by rw [hvox]; exact (hbox a).2, hk⟩
    have hflat : flatN V n k0 = placeN v := by
      have hc := clip_valid V n k0 hvalid
      rw [hvox] at hc
      unfold flatN placeN
      rw [hc]
    rw [Finset.sum_eq_single k0 (fun k _ hne => ?_) (fun h => absurd (Finset.mem_univ _) h), if_pos hflat, shareE_in _ _ _ ⟨hk, hbox⟩, v247_share, hvox, hvalid]
    · show w (_ * (((1 : ℕ) : ℝ) : EReal)) = _
      simp
    · by_cases hk1 : validR V n k = 1#1
      · refine if_neg fun hf => hne (off_inj _ _ fun a => ?_)
        have h1 := congrFun (hval k hk1 hf) a
        have e : voxN V n k a = headN (B0 V) (B2 V) n a + offN k a := rfl
        rw [hk0 a]
        omega
      · exact hoff k hk1
  · rw [shareE_out _ _ _ hb, w0]
    refine Finset.sum_eq_zero fun k _ => ?_
    by_cases hk1 : validR V n k = 1#1
    · refine if_neg fun hf => hb ?_
      have h1 := hval k hk1 hf
      obtain ⟨h2, h3⟩ := (validR_iff V n k).1 hk1
      refine ⟨h3, fun a => ?_⟩
      rw [← h1]
      exact ⟨Nat.le_add_right _ _, h2 a⟩
    · exact hoff k hk1

/-- The two results. -/
def densityR : FVec Ideal S200x200x16x1 .f32 :=
  shapeCast S200x200x16x1 (Host.scatterAdd (F := Ideal) (φ := .f32) scatter_S640000_S8388608x1_S8388608_n_0_0_1 (broadcastInDim S640000 ![] Gen.bcast_S_S640000 (constant (F := Ideal) S_ .f32 0x00000000#32)) (wordsR V)
    (shapeCast S8388608 (res_main_v247 V) Gen.shapeCasts_S16384x512_S8388608)) Gen.shapeCasts_S640000_S200x200x16x1
/-- The contributions times the features. -/
def updR : FVec Ideal S8388608x16 .f32 :=
  shapeCast S8388608x16 (mulf (broadcastInDim S16384x512x16 ![0, 1, 2] Gen.bcast_S16384x512x1_S16384x512x16_0_1_2 (broadcastInDim S16384x512x1 ![0, 1] Gen.bcast_S16384x512_S16384x512x1_0_1 (res_main_v247 V)))
      (broadcastInDim S16384x512x16 ![0, 1, 2] Gen.bcast_S16384x1x16_S16384x512x16_0_1_2 (broadcastInDim S16384x1x16 ![0, 2] Gen.bcast_S16384x16_S16384x1x16_0_2 (B3 V)))) Gen.shapeCasts_S16384x512x16_S8388608x16
def featuresR : FVec Ideal S200x200x16x16 .f32 :=
  Host.divf (shapeCast S200x200x16x16 (Host.scatterAdd (F := Ideal) (φ := .f32) scatter_S640000x16_S8388608x1_S8388608x16_1_0_0_1 (broadcastInDim S640000x16 ![] Gen.bcast_S_S640000x16 (constant (F := Ideal) S_ .f32 0x00000000#32)) (wordsR V)
    (updR V)) Gen.shapeCasts_S640000x16_S200x200x16x16)
    (broadcastInDim S200x200x16x16 ![0, 1, 2, 3] Gen.bcast_S200x200x16x1_S200x200x16x16_0_1_2_3 (maximumf (densityR V) (broadcastInDim S200x200x16x1 ![] Gen.bcast_S_S200x200x16x1 (constant (F := Ideal) S_ .f32 0x358637BD#32))))

theorem line_at (x : FVec Ideal S16384x512 .f32) (n : Fin 16384) (k : Fin 512) : shapeCast S8388608 x Gen.shapeCasts_S16384x512_S8388608 (ix1 (rowJ n k)) = x (ix2 n k) := by
  have e1 : (⟨(rowJ n k).val / 512, by omega⟩ : Fin 16384) = n := Fin.ext (show (n.val * 512 + k.val) / 512 = n.val by omega)
  have e2 : (⟨(rowJ n k).val % 512, by omega⟩ : Fin 512) = k := Fin.ext (show (n.val * 512 + k.val) % 512 = k.val by omega)
  pointwise
  exact congrArg₂ (fun a b => x (ix2 a b)) e1 e2

theorem table_at (x : FVec Ideal S16384x512x16 .f32) (n : Fin 16384) (k : Fin 512) (c : Fin 16) :
    shapeCast S8388608x16 x Gen.shapeCasts_S16384x512x16_S8388608x16 (ix2 (rowJ n k) c) = x (ix3 n k c) := by
  have e1 : (⟨(rowJ n k).val / 512, by omega⟩ : Fin 16384) = n := Fin.ext (show (n.val * 512 + k.val) / 512 = n.val by omega)
  have e2 : (⟨(rowJ n k).val % 512, by omega⟩ : Fin 512) = k := Fin.ext (show (n.val * 512 + k.val) % 512 = k.val by omega)
  pointwise
  exact congrArg₂ (fun a b => x (ix3 a b c)) e1 e2

/-- The three numbers of a voxel. -/
def voxelOf (X Y : Fin 200) (Z : Fin 16) : Fin 3 → ℕ := ![X.val, Y.val, Z.val]

theorem voxelOf_le (X Y : Fin 200) (Z : Fin 16) (a : Fin 3) : voxelOf X Y Z a ≤ (![199, 199, 15] : Fin 3 → ℕ) a := by
  unfold voxelOf
  fin_cases a <;> simp <;> omega

def placeJ (X Y : Fin 200) (Z : Fin 16) : Fin 640000 := ⟨placeN (voxelOf X Y Z), by show (X.val * 200 + Y.val) * 16 + Z.val < _; omega⟩

theorem updR_at (n : Fin 16384) (k : Fin 512) (c : Fin 16) : updR V (ix2 (rowJ n k) c) = (fun x : EReal => x * B3 V (ix2 n c)) (res_main_v247 V (ix2 n k)) := by
  unfold updR
  refine (table_at _ n k c).trans ?_
  pointwise

theorem thick_at (x : FVec Ideal S200x200x16x1 .f32) (X Y : Fin 200) (Z : Fin 16) (c : Fin 16) :
    broadcastInDim S200x200x16x16 ![0, 1, 2, 3] Gen.bcast_S200x200x16x1_S200x200x16x16_0_1_2_3 x (ix4 X Y Z c) = x (ix4 X Y Z 0) := by
  pointwise

theorem floor_at (x : FVec Ideal S200x200x16x1 .f32) (X Y : Fin 200) (Z : Fin 16) :
    maximumf x (broadcastInDim S200x200x16x1 ![] Gen.bcast_S_S200x200x16x1 (constant (F := Ideal) S_ .f32 0x358637BD#32)) (ix4 X Y Z 0) = max (x (ix4 X Y Z 0)) (Ideal.ofBits .f32 0x358637BD#32) := by
  pointwise

theorem divf_at {s : Shape} (x y : FVec Ideal s .f32) (i : s.Idx) : Host.divf x y i = Ideal.div (x i) (y i) := rfl

theorem unline (u : FVec Ideal S640000 .f32) (X Y : Fin 200) (Z : Fin 16) :
    shapeCast S200x200x16x1 u Gen.shapeCasts_S640000_S200x200x16x1 (ix4 X Y Z 0) = u (ix1 (placeJ X Y Z)) := by
  pointwise
  exact congrArg (fun t => u (ix1 t)) (Fin.ext (show X.val * 3200 + Y.val * 16 + Z.val = (X.val * 200 + Y.val) * 16 + Z.val by omega))

theorem untable (u : FVec Ideal S640000x16 .f32) (X Y : Fin 200) (Z : Fin 16) (c : Fin 16) :
    shapeCast S200x200x16x16 u Gen.shapeCasts_S640000x16_S200x200x16x16 (ix4 X Y Z c) = u (ix2 (placeJ X Y Z) c) := by
  pointwise
  exact congrArg (fun t => u (ix2 t c)) (Fin.ext (show X.val * 3200 + Y.val * 16 + Z.val = (X.val * 200 + Y.val) * 16 + Z.val by omega))

variable (hs : ∀ n, kept (B0 V) (B1 V) (B2 V) (ix1 n) = 1#1 → ∀ a, lastN (B0 V) (B2 V) n a ≤ headN (B0 V) (B2 V) n a + 7)
include hs

theorem densityR_at (X Y : Fin 200) (Z : Fin 16) : densityR V (ix4 X Y Z 0) = ∑ n : Fin 16384, shareE (B0 V) (B1 V) (B2 V) n (voxelOf X Y Z) := by
  refine Eq.trans ?_ ((scatter_flat V (shapeCast S8388608 (res_main_v247 V) Gen.shapeCasts_S16384x512_S8388608) (placeJ X Y Z)).trans ?_)
  · unfold densityR
    exact unline _ X Y Z
  · refine Fintype.sum_congr _ _ fun n => Eq.trans ?_ (window_sum V n (hs n) (voxelOf X Y Z) (voxelOf_le X Y Z) (fun x => x) rfl)
    exact Fintype.sum_congr _ _ fun k => if_congr Iff.rfl (line_at _ n k) rfl

theorem featuresR_at (X Y : Fin 200) (Z : Fin 16) (c : Fin 16) :
    featuresR V (ix4 X Y Z c) = Ideal.div (∑ n : Fin 16384, shareE (B0 V) (B1 V) (B2 V) n (voxelOf X Y Z) * B3 V (ix2 n c)) (max (densityR V (ix4 X Y Z 0)) (Ideal.ofBits .f32 0x358637BD#32)) := by
  unfold featuresR
  refine (divf_at _ _ _).trans (congrArg₂ Ideal.div ?_ ?_)
  · refine (untable _ X Y Z c).trans ((scatter_row V (updR V) (placeJ X Y Z) c).trans ?_)
    refine Fintype.sum_congr _ _ fun n => Eq.trans ?_ (window_sum V n (hs n) (voxelOf X Y Z) (voxelOf_le X Y Z) (fun x => x * B3 V (ix2 n c)) (zero_mul _))
    exact Fintype.sum_congr _ _ fun k => if_congr Iff.rfl (updR_at V n k c) rfl
  · exact (thick_at _ X Y Z c).trans (floor_at (densityR V) X Y Z)

end Cert.Vox.Ref

end
-- ==== Proof.Equation.lean ====
module

public import proofs.«01_k».proof.Proof.Tames
public import proofs.«01_k».proof.Proof.KerSum
public import proofs.«01_k».proof.Proof.RefSum
public import proofs.«01_k».proof.Proof.Frames

@[expose] public section

noncomputable section

/-! The kernel's two arrays are the reference's two. -/

namespace Cert.Vox

open Cert.KernelIdeal Cert.KernelIdeal.Gen
open Idealize.ShloMosaic Idealize.ShloMosaic.TcCoe

variable (m : (ℓ : Loc nD τ sig) → Buf (Elt Ideal) ℓ) (V : Ref.Vals)

/-- The kernel's inputs on its device are the reference's. -/
structure Agree : Prop where
  means : Ref.B0 V = A0 m 0
  opac : Ref.B1 V = A1 m 0
  cov : Ref.B2 V = A2 m 0
  feat : Ref.B3 V = A3 m 0
  tame : ∀ n, ∃ r : Fin 3 → Fin 3 → ℝ, Tame (A2 m 0) n r

variable {m} {V}

theorem Agree.short (hA : Agree m V) (n : Fin 16384) (hk : kept (Ref.B0 V) (Ref.B1 V) (Ref.B2 V) (ix1 n) = 1#1) (a : Fin 3) :
    lastN (Ref.B0 V) (Ref.B2 V) n a ≤ headN (Ref.B0 V) (Ref.B2 V) n a + 7 := by
  rw [hA.means, hA.opac, hA.cov] at hk
  rw [hA.means, hA.cov]
  obtain ⟨r, hr⟩ := hA.tame n
  exact last_le _ _ _ n r hr hk a

/-- A lane of the kernel's grid, as the shares of the Gaussians. -/
theorem Agree.lane (hA : Agree m V) (X Y : Fin 200) (l : Fin 512) :
    placed (tiles m) (ix3 ⟨X.val, by omega⟩ ⟨Y.val, by omega⟩ l)
      = ∑ n : Fin 16384, shareE (A0 m 0) (A1 m 0) (A2 m 0) n ![X.val, Y.val, lev l] * featE (fun f => A3 m 0 (ix2 n f)) l := by
  rw [placed_tiles m _ X.isLt]
  refine Finset.sum_congr rfl fun n _ => ?_
  obtain ⟨r, hr⟩ := hA.tame n
  exact onGrid_share _ _ _ _ n r hr X.val Y.val X.isLt (by have := Y.isLt; omega) l

theorem lev_depth (Z : Fin 16) (h : 384 + Z.val < 512) : lev ⟨384 + Z.val, h⟩ = Z.val := by
  unfold lev
  rw [if_neg (by show ¬ (384 + Z.val < 384); omega)]
  show 384 + Z.val - 384 = Z.val
  omega

theorem featE_depth (ft : Fin 16 → EReal) (Z : Fin 16) (h : 384 + Z.val < 512) : featE ft ⟨384 + Z.val, h⟩ = 1 := by
  unfold featE
  rw [if_neg (by show ¬ (384 + Z.val < 384); omega), if_pos (by show 384 + Z.val < 408; omega)]

theorem lev_channel (Z c : Fin 16) (h : Z.val * 16 + c.val < 512) : lev ⟨Z.val * 16 + c.val, h⟩ = Z.val := by
  unfold lev
  rw [if_pos (by show Z.val * 16 + c.val < 384; omega)]
  show (Z.val * 16 + c.val) / 16 = Z.val
  omega

theorem featE_channel (ft : Fin 16 → EReal) (Z c : Fin 16) (h : Z.val * 16 + c.val < 512) : featE ft ⟨Z.val * 16 + c.val, h⟩ = ft c := by
  unfold featE
  rw [if_pos (by show Z.val * 16 + c.val < 384; omega)]
  exact congrArg ft (Fin.ext (show (Z.val * 16 + c.val) % 16 = c.val by omega))

theorem Agree.density_at (hA : Agree m V) (X Y : Fin 200) (Z : Fin 16) :
    densityOf (placed (tiles m)) (ix4 X Y Z 0) = Ref.densityR V (ix4 X Y Z 0) := by
  rw [densityOf_at, hA.lane X Y, Ref.densityR_at V hA.short, hA.means, hA.opac, hA.cov]
  refine Finset.sum_congr rfl fun n _ => ?_
  rw [featE_depth, mul_one, lev_depth]
  rfl

theorem Agree.features_at (hA : Agree m V) (X Y : Fin 200) (Z c : Fin 16) :
    featuresOf (placed (tiles m)) (ix4 X Y Z c) = Ref.featuresR V (ix4 X Y Z c) := by
  rw [featuresOf_at, hA.density_at X Y Z, hA.lane X Y, Ref.featuresR_at V hA.short, hA.means, hA.opac, hA.cov, hA.feat]
  refine congrArg (fun s : EReal => Ideal.div s (max (Ref.densityR V (ix4 X Y Z 0)) (Ideal.ofBits .f32 0x358637BD#32))) ?_
  refine Finset.sum_congr rfl fun n _ => ?_
  rw [featE_channel, lev_channel]
  rfl

theorem ext_density (f g : S200x200x16x1.Idx → EReal) (h : ∀ (X Y : Fin 200) (Z : Fin 16) (o : Fin 1), f (ix4 X Y Z o) = g (ix4 X Y Z o)) : f = g := by
  funext i
  idx_vars i
  exact h _ _ _ _

theorem ext_features (f g : S200x200x16x16.Idx → EReal) (h : ∀ (X Y : Fin 200) (Z c : Fin 16), f (ix4 X Y Z c) = g (ix4 X Y Z c)) : f = g := by
  funext i
  idx_vars i
  exact h _ _ _ _

theorem Agree.density (hA : Agree m V) : densityOf (placed (tiles m)) = Ref.densityR V :=
  ext_density _ _ fun X Y Z o => by rw [Subsingleton.elim o 0]; exact hA.density_at X Y Z

theorem Agree.features (hA : Agree m V) : featuresOf (placed (tiles m)) = Ref.featuresR V :=
  ext_features _ _ hA.features_at

theorem algebraic : Cert.algebraic_KernelIdeal_ReferenceIdeal_pre_small_covariances := by
  intro m g m' g' hpre hargs
  have hA : Agree m (StableHlo.launchContents m' 0) :=
    ⟨(hargs 0).1, (hargs 0).2.1, (hargs 0).2.2.1, (hargs 0).2.2.2, tame_of _ _ _ _ (hpre 0)⟩
  have hc : ∀ c : Dev nD, c = 0 := fun c => Subsingleton.elim _ _
  refine ⟨fun c => endV m c (Proc.devRef .tc main_v96), fun c => endV m c (Proc.devRef .tc main_v102),
    (θ_run _ _ _).mono (fun _ h => h.1) (run_post (F := Ideal) m g (allOk_of m (inGrid_ideal _ _ _))),
    (θ_run _ _ _).mono (fun r h c => ?_) (Cert.ReferenceIdeal.Value.run (F := Ideal) m' g')⟩
  obtain ⟨hd, hf, hr⟩ := h c
  rw [hc c] at hd hf hr ⊢
  refine ⟨hd.trans ?_, hf.trans ?_, hr⟩
  · exact ((endV_v96 m).trans hA.density).symm
  · exact ((endV_v102 m).trans hA.features).symm

end Cert.Vox

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_kept_start_in_grid
public import proofs.«01_k».proof.Proof.Gen.Pre_small_covariances
public import proofs.«01_k».proof.Proof.Frames
public import proofs.«01_k».proof.Proof.Equation
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.ReferenceIdeal.Run

@[expose] public section

namespace Cert.Proof

open Cert.Vox

theorem claim : Cert.Claim :=
  ⟨Cert.Kernel.Gen.facts, Cert.KernelIdeal.Gen.facts, Cert.ReferenceIdeal.Gen.facts, Cert.Pre_kept_start_in_grid.Gen.facts,
    Cert.Pre_small_covariances.Gen.facts, frame_kernel, frame_kernelIdeal, fun m g _ => frame_kernelIdeal m g trivial,
    fun m g _ => frame_kernelIdeal m g trivial, frame_referenceIdeal, fun m g _ => frame_referenceIdeal m g trivial, trivial, algebraic⟩

end Cert.Proof
